-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x20000x25 : Shape := ⟨3, ![16, 20000, 25]⟩
abbrev S20000x4 : Shape := ⟨2, ![20000, 4]⟩
abbrev S8000000 : Shape := ⟨1, ![8000000]⟩
abbrev S80000 : Shape := ⟨1, ![80000]⟩
abbrev S1280000 : Shape := ⟨1, ![1280000]⟩
abbrev S320000 : Shape := ⟨1, ![320000]⟩
abbrev S32x16 : Shape := ⟨2, ![32, 16]⟩
abbrev S50000 : Shape := ⟨1, ![50000]⟩
abbrev S8000 : Shape := ⟨1, ![8000]⟩
abbrev S2000 : Shape := ⟨1, ![2000]⟩
abbrev S16 : Shape := ⟨1, ![16]⟩
abbrev S_ : Shape := ⟨0, ![]⟩
abbrev S1x16 : Shape := ⟨2, ![1, 16]⟩
abbrev S16x20000x4 : Shape := ⟨3, ![16, 20000, 4]⟩
abbrev S16x20000 : Shape := ⟨2, ![16, 20000]⟩
abbrev S16x32 : Shape := ⟨2, ![16, 32]⟩

abbrev nBuf : Table → Nat
  | .hbm => 14
  | .local .scVector .vmem => 6
  | _ => 0

abbrev bufTy : (tb : Table) → Fin (nBuf tb) → BufTy
  | .hbm, ⟨0, _⟩ => ⟨S16x20000x25, .f32⟩
  | .hbm, ⟨1, _⟩ => ⟨S20000x4, .f32⟩
  | .hbm, ⟨2, _⟩ => ⟨S8000000, .f32⟩
  | .hbm, ⟨3, _⟩ => ⟨S80000, .f32⟩
  | .hbm, ⟨4, _⟩ => ⟨S1280000, .f32⟩
  | .hbm, ⟨5, _⟩ => ⟨S320000, .f32⟩
  | .hbm, ⟨6, _⟩ => ⟨S320000, .i32⟩
  | .hbm, ⟨7, _⟩ => ⟨S32x16, .i32⟩
  | .hbm, ⟨8, _⟩ => ⟨S16x20000x4, .f32⟩
  | .hbm, ⟨9, _⟩ => ⟨S16x20000, .f32⟩
  | .hbm, ⟨10, _⟩ => ⟨S16x20000, .i32⟩
  | .hbm, ⟨11, _⟩ => ⟨S16x32, .i32⟩
  | .hbm, ⟨12, _⟩ => ⟨S_, .i32⟩
  | .hbm, ⟨13, _⟩ => ⟨S16, .i32⟩
  | .local .scVector .vmem, ⟨0, _⟩ => ⟨S50000, .f32⟩
  | .local .scVector .vmem, ⟨1, _⟩ => ⟨S8000, .f32⟩
  | .local .scVector .vmem, ⟨2, _⟩ => ⟨S8000, .f32⟩
  | .local .scVector .vmem, ⟨3, _⟩ => ⟨S2000, .f32⟩
  | .local .scVector .vmem, ⟨4, _⟩ => ⟨S2000, .i32⟩
  | .local .scVector .vmem, ⟨5, _⟩ => ⟨S16, .i32⟩
  | _, _ => ⟨S16x20000x25, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev main_v2_2_scv : Ref sig .scVector := ⟨.hbm, 6, rfl⟩
abbrev main_v2_3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c20000_i32 : BitVec 32 := 20000#32
  let v29 : BitVec 32 := Scalar.muli v18 c20000_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c10000_i32 : BitVec 32 := 10000#32
  let v30 : BitVec 32 := Scalar.muli v28 c10000_i32
  let v31 : BitVec 32 := Scalar.addi v29 v30
  let v34 : BitVec 32 := Scalar.addi v31 c0_i32_12
  let c25_i32 : BitVec 32 := 25#32
  let v37 : BitVec 32 := Scalar.muli v34 c25_i32
  ![v37.toNat]
def k0_off2 (i : grid0.Coords) (c0_i32_14 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c10000_i32_13 : BitVec 32 := 10000#32
  let v35 : BitVec 32 := Scalar.muli v28 c10000_i32_13
  let v36 : BitVec 32 := Scalar.addi v35 c0_i32_14
  let c4_i32 : BitVec 32 := 4#32
  let v38 : BitVec 32 := Scalar.muli v36 c4_i32
  ![v38.toNat]
@[reducible] def k0_t1_loop : Scf.Loop 32 :=
  let c0_i32_15 : BitVec 32 := 0#32
  let c125_i32 : BitVec 32 := 125#32
  let v39 : BitVec 32 := Scalar.addi c0_i32_15 c125_i32
  let c1_i32_16 : BitVec 32 := 1#32
  ⟨c0_i32_15, v39, c1_i32_16⟩

def k0_chk1 (v79 : IVec S16 32) : Prop :=
  (∀ a x, ((![v79] : Fin 1 → IVec S16 32) a x).toNat < S50000.size a)
theorem k0_idx1_inb : ∀ (v79 : IVec S16 32) (k0_hw1 : k0_chk1 v79), ∀ a x, ((![v79] : Fin 1 → IVec S16 32) a x).toNat < S50000.size a := fun v79 k0_hw1 => k0_hw1

def k0_chk2 (v82 : IVec S16 32) : Prop :=
  (∀ a x, ((![v82] : Fin 1 → IVec S16 32) a x).toNat < S50000.size a)
theorem k0_idx2_inb : ∀ (v82 : IVec S16 32) (k0_hw2 : k0_chk2 v82), ∀ a x, ((![v82] : Fin 1 → IVec S16 32) a x).toNat < S50000.size a := fun v82 k0_hw2 => k0_hw2

def k0_chk3 (v85 : IVec S16 32) : Prop :=
  (∀ a x, ((![v85] : Fin 1 → IVec S16 32) a x).toNat < S50000.size a)
theorem k0_idx3_inb : ∀ (v85 : IVec S16 32) (k0_hw3 : k0_chk3 v85), ∀ a x, ((![v85] : Fin 1 → IVec S16 32) a x).toNat < S50000.size a := fun v85 k0_hw3 => k0_hw3

def k0_chk4 (v88 : IVec S16 32) : Prop :=
  (∀ a x, ((![v88] : Fin 1 → IVec S16 32) a x).toNat < S50000.size a)
theorem k0_idx4_inb : ∀ (v88 : IVec S16 32) (k0_hw4 : k0_chk4 v88), ∀ a x, ((![v88] : Fin 1 → IVec S16 32) a x).toNat < S50000.size a := fun v88 k0_hw4 => k0_hw4

def k0_chk5 (v91 : IVec S16 32) : Prop :=
  (∀ a x, ((![v91] : Fin 1 → IVec S16 32) a x).toNat < S50000.size a)
theorem k0_idx5_inb : ∀ (v91 : IVec S16 32) (k0_hw5 : k0_chk5 v91), ∀ a x, ((![v91] : Fin 1 → IVec S16 32) a x).toNat < S50000.size a := fun v91 k0_hw5 => k0_hw5

def k0_chk6 (v96 : IVec S16 32) : Prop :=
  (∀ a x, ((![v96] : Fin 1 → IVec S16 32) a x).toNat < S50000.size a)
theorem k0_idx6_inb : ∀ (v96 : IVec S16 32) (k0_hw6 : k0_chk6 v96), ∀ a x, ((![v96] : Fin 1 → IVec S16 32) a x).toNat < S50000.size a := fun v96 k0_hw6 => k0_hw6

def k0_chk7 (v105 : IVec S16 32) : Prop :=
  (∀ a x, ((![v105] : Fin 1 → IVec S16 32) a x).toNat < S50000.size a)
theorem k0_idx7_inb : ∀ (v105 : IVec S16 32) (k0_hw7 : k0_chk7 v105), ∀ a x, ((![v105] : Fin 1 → IVec S16 32) a x).toNat < S50000.size a := fun v105 k0_hw7 => k0_hw7

def k0_chk8 (v114 : IVec S16 32) : Prop :=
  (∀ a x, ((![v114] : Fin 1 → IVec S16 32) a x).toNat < S50000.size a)
theorem k0_idx8_inb : ∀ (v114 : IVec S16 32) (k0_hw8 : k0_chk8 v114), ∀ a x, ((![v114] : Fin 1 → IVec S16 32) a x).toNat < S50000.size a := fun v114 k0_hw8 => k0_hw8

def k0_chk9 (v123 : IVec S16 32) : Prop :=
  (∀ a x, ((![v123] : Fin 1 → IVec S16 32) a x).toNat < S50000.size a)
theorem k0_idx9_inb : ∀ (v123 : IVec S16 32) (k0_hw9 : k0_chk9 v123), ∀ a x, ((![v123] : Fin 1 → IVec S16 32) a x).toNat < S50000.size a := fun v123 k0_hw9 => k0_hw9

def k0_chk10 (v132 : IVec S16 32) : Prop :=
  (∀ a x, ((![v132] : Fin 1 → IVec S16 32) a x).toNat < S50000.size a)
theorem k0_idx10_inb : ∀ (v132 : IVec S16 32) (k0_hw10 : k0_chk10 v132), ∀ a x, ((![v132] : Fin 1 → IVec S16 32) a x).toNat < S50000.size a := fun v132 k0_hw10 => k0_hw10

def k0_chk11 (v141 : IVec S16 32) : Prop :=
  (∀ a x, ((![v141] : Fin 1 → IVec S16 32) a x).toNat < S50000.size a)
theorem k0_idx11_inb : ∀ (v141 : IVec S16 32) (k0_hw11 : k0_chk11 v141), ∀ a x, ((![v141] : Fin 1 → IVec S16 32) a x).toNat < S50000.size a := fun v141 k0_hw11 => k0_hw11

def k0_chk12 (v150 : IVec S16 32) : Prop :=
  (∀ a x, ((![v150] : Fin 1 → IVec S16 32) a x).toNat < S50000.size a)
theorem k0_idx12_inb : ∀ (v150 : IVec S16 32) (k0_hw12 : k0_chk12 v150), ∀ a x, ((![v150] : Fin 1 → IVec S16 32) a x).toNat < S50000.size a := fun v150 k0_hw12 => k0_hw12

def k0_chk13 (v159 : IVec S16 32) : Prop :=
  (∀ a x, ((![v159] : Fin 1 → IVec S16 32) a x).toNat < S50000.size a)
theorem k0_idx13_inb : ∀ (v159 : IVec S16 32) (k0_hw13 : k0_chk13 v159), ∀ a x, ((![v159] : Fin 1 → IVec S16 32) a x).toNat < S50000.size a := fun v159 k0_hw13 => k0_hw13

def k0_chk14 (v168 : IVec S16 32) : Prop :=
  (∀ a x, ((![v168] : Fin 1 → IVec S16 32) a x).toNat < S50000.size a)
theorem k0_idx14_inb : ∀ (v168 : IVec S16 32) (k0_hw14 : k0_chk14 v168), ∀ a x, ((![v168] : Fin 1 → IVec S16 32) a x).toNat < S50000.size a := fun v168 k0_hw14 => k0_hw14

def k0_chk15 (v177 : IVec S16 32) : Prop :=
  (∀ a x, ((![v177] : Fin 1 → IVec S16 32) a x).toNat < S50000.size a)
theorem k0_idx15_inb : ∀ (v177 : IVec S16 32) (k0_hw15 : k0_chk15 v177), ∀ a x, ((![v177] : Fin 1 → IVec S16 32) a x).toNat < S50000.size a := fun v177 k0_hw15 => k0_hw15

def k0_chk16 (v186 : IVec S16 32) : Prop :=
  (∀ a x, ((![v186] : Fin 1 → IVec S16 32) a x).toNat < S50000.size a)
theorem k0_idx16_inb : ∀ (v186 : IVec S16 32) (k0_hw16 : k0_chk16 v186), ∀ a x, ((![v186] : Fin 1 → IVec S16 32) a x).toNat < S50000.size a := fun v186 k0_hw16 => k0_hw16

def k0_chk17 (v195 : IVec S16 32) : Prop :=
  (∀ a x, ((![v195] : Fin 1 → IVec S16 32) a x).toNat < S50000.size a)
theorem k0_idx17_inb : ∀ (v195 : IVec S16 32) (k0_hw17 : k0_chk17 v195), ∀ a x, ((![v195] : Fin 1 → IVec S16 32) a x).toNat < S50000.size a := fun v195 k0_hw17 => k0_hw17

def k0_chk18 (v204 : IVec S16 32) : Prop :=
  (∀ a x, ((![v204] : Fin 1 → IVec S16 32) a x).toNat < S50000.size a)
theorem k0_idx18_inb : ∀ (v204 : IVec S16 32) (k0_hw18 : k0_chk18 v204), ∀ a x, ((![v204] : Fin 1 → IVec S16 32) a x).toNat < S50000.size a := fun v204 k0_hw18 => k0_hw18

def k0_chk19 (v213 : IVec S16 32) : Prop :=
  (∀ a x, ((![v213] : Fin 1 → IVec S16 32) a x).toNat < S50000.size a)
theorem k0_idx19_inb : ∀ (v213 : IVec S16 32) (k0_hw19 : k0_chk19 v213), ∀ a x, ((![v213] : Fin 1 → IVec S16 32) a x).toNat < S50000.size a := fun v213 k0_hw19 => k0_hw19

def k0_chk20 (v222 : IVec S16 32) : Prop :=
  (∀ a x, ((![v222] : Fin 1 → IVec S16 32) a x).toNat < S50000.size a)
theorem k0_idx20_inb : ∀ (v222 : IVec S16 32) (k0_hw20 : k0_chk20 v222), ∀ a x, ((![v222] : Fin 1 → IVec S16 32) a x).toNat < S50000.size a := fun v222 k0_hw20 => k0_hw20

def k0_chk21 (v231 : IVec S16 32) : Prop :=
  (∀ a x, ((![v231] : Fin 1 → IVec S16 32) a x).toNat < S50000.size a)
theorem k0_idx21_inb : ∀ (v231 : IVec S16 32) (k0_hw21 : k0_chk21 v231), ∀ a x, ((![v231] : Fin 1 → IVec S16 32) a x).toNat < S50000.size a := fun v231 k0_hw21 => k0_hw21

def k0_chk22 (v240 : IVec S16 32) : Prop :=
  (∀ a x, ((![v240] : Fin 1 → IVec S16 32) a x).toNat < S50000.size a)
theorem k0_idx22_inb : ∀ (v240 : IVec S16 32) (k0_hw22 : k0_chk22 v240), ∀ a x, ((![v240] : Fin 1 → IVec S16 32) a x).toNat < S50000.size a := fun v240 k0_hw22 => k0_hw22

def k0_chk23 (v249 : IVec S16 32) : Prop :=
  (∀ a x, ((![v249] : Fin 1 → IVec S16 32) a x).toNat < S50000.size a)
theorem k0_idx23_inb : ∀ (v249 : IVec S16 32) (k0_hw23 : k0_chk23 v249), ∀ a x, ((![v249] : Fin 1 → IVec S16 32) a x).toNat < S50000.size a := fun v249 k0_hw23 => k0_hw23

def k0_chk24 (v258 : IVec S16 32) : Prop :=
  (∀ a x, ((![v258] : Fin 1 → IVec S16 32) a x).toNat < S50000.size a)
theorem k0_idx24_inb : ∀ (v258 : IVec S16 32) (k0_hw24 : k0_chk24 v258), ∀ a x, ((![v258] : Fin 1 → IVec S16 32) a x).toNat < S50000.size a := fun v258 k0_hw24 => k0_hw24

def k0_chk25 (v267 : IVec S16 32) : Prop :=
  (∀ a x, ((![v267] : Fin 1 → IVec S16 32) a x).toNat < S50000.size a)
theorem k0_idx25_inb : ∀ (v267 : IVec S16 32) (k0_hw25 : k0_chk25 v267), ∀ a x, ((![v267] : Fin 1 → IVec S16 32) a x).toNat < S50000.size a := fun v267 k0_hw25 => k0_hw25

def k0_chk27 (v277 : IVec S16 32) : Prop :=
  (∀ a x, ((![v277] : Fin 1 → IVec S16 32) a x).toNat < S8000.size a)
theorem k0_idx27_inb : ∀ (v277 : IVec S16 32) (k0_hw27 : k0_chk27 v277), ∀ a x, ((![v277] : Fin 1 → IVec S16 32) a x).toNat < S8000.size a := fun v277 k0_hw27 => k0_hw27

def k0_chk28 (v280 : IVec S16 32) : Prop :=
  (∀ a x, ((![v280] : Fin 1 → IVec S16 32) a x).toNat < S8000.size a)
theorem k0_idx28_inb : ∀ (v280 : IVec S16 32) (k0_hw28 : k0_chk28 v280), ∀ a x, ((![v280] : Fin 1 → IVec S16 32) a x).toNat < S8000.size a := fun v280 k0_hw28 => k0_hw28

def k0_chk29 (v283 : IVec S16 32) : Prop :=
  (∀ a x, ((![v283] : Fin 1 → IVec S16 32) a x).toNat < S8000.size a)
theorem k0_idx29_inb : ∀ (v283 : IVec S16 32) (k0_hw29 : k0_chk29 v283), ∀ a x, ((![v283] : Fin 1 → IVec S16 32) a x).toNat < S8000.size a := fun v283 k0_hw29 => k0_hw29

def k0_chk26 (v274 : IVec S16 32) : Prop :=
  (∀ a x, ((![v274] : Fin 1 → IVec S16 32) a x).toNat < S8000.size a) ∧
  (∀ a x, ((![v274] : Fin 1 → IVec S16 32) a x).toNat < S8000.size a)
theorem k0_idx26_inb : ∀ (v274 : IVec S16 32) (k0_hw26 : k0_chk26 v274), ∀ a x, ((![v274] : Fin 1 → IVec S16 32) a x).toNat < S8000.size a := fun v274 k0_hw26 => k0_hw26.1
theorem k0_idx30_inb : ∀ (v274 : IVec S16 32) (k0_hw26 : k0_chk26 v274), ∀ a x, ((![v274] : Fin 1 → IVec S16 32) a x).toNat < S8000.size a := fun v274 k0_hw26 => k0_hw26.2

def k0_chk30 (v338 : IVec S16 32) : Prop :=
  (∀ a x, ((![v338] : Fin 1 → IVec S16 32) a x).toNat < S8000.size a)
theorem k0_idx31_inb : ∀ (v338 : IVec S16 32) (k0_hw30 : k0_chk30 v338), ∀ a x, ((![v338] : Fin 1 → IVec S16 32) a x).toNat < S8000.size a := fun v338 k0_hw30 => k0_hw30

def k0_chk31 (v340 : IVec S16 32) : Prop :=
  (∀ a x, ((![v340] : Fin 1 → IVec S16 32) a x).toNat < S8000.size a)
theorem k0_idx32_inb : ∀ (v340 : IVec S16 32) (k0_hw31 : k0_chk31 v340), ∀ a x, ((![v340] : Fin 1 → IVec S16 32) a x).toNat < S8000.size a := fun v340 k0_hw31 => k0_hw31

def k0_chk32 (v342 : IVec S16 32) : Prop :=
  (∀ a x, ((![v342] : Fin 1 → IVec S16 32) a x).toNat < S8000.size a)
theorem k0_idx33_inb : ∀ (v342 : IVec S16 32) (k0_hw32 : k0_chk32 v342), ∀ a x, ((![v342] : Fin 1 → IVec S16 32) a x).toNat < S8000.size a := fun v342 k0_hw32 => k0_hw32
def k0_off3 (k0_t1 : Fin k0_t1_loop.trips) : Fin 1 → Nat :=
  let c0_i32_15 : BitVec 32 := 0#32
  let c1_i32_16 : BitVec 32 := 1#32
  let arg14 : BitVec 32 := Scf.iv c0_i32_15 c1_i32_16 k0_t1
  let c16_i32_125 : BitVec 32 := 16#32
  let v344 : BitVec 32 := Scalar.muli arg14 c16_i32_125
  let v345 : Index := Scalar.indexCast v344
  ![v345.toNat]
def k0_off4 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c20000_i32 : BitVec 32 := 20000#32
  let v29 : BitVec 32 := Scalar.muli v18 c20000_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c10000_i32 : BitVec 32 := 10000#32
  let v30 : BitVec 32 := Scalar.muli v28 c10000_i32
  let v31 : BitVec 32 := Scalar.addi v29 v30
  let v34 : BitVec 32 := Scalar.addi v31 c0_i32_12
  let c4_i32_18 : BitVec 32 := 4#32
  let v41 : BitVec 32 := Scalar.muli v34 c4_i32_18
  ![v41.toNat]
def k0_off5 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c20000_i32 : BitVec 32 := 20000#32
  let v29 : BitVec 32 := Scalar.muli v18 c20000_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c10000_i32 : BitVec 32 := 10000#32
  let v30 : BitVec 32 := Scalar.muli v28 c10000_i32
  let v31 : BitVec 32 := Scalar.addi v29 v30
  let v34 : BitVec 32 := Scalar.addi v31 c0_i32_12
  ![v34.toNat]
@[reducible] def k0_t2_loop : Scf.Loop 32 :=
  let c0_i32_23 : BitVec 32 := 0#32
  let c125_i32_24 : BitVec 32 := 125#32
  let v47 : BitVec 32 := Scalar.addi c0_i32_23 c125_i32_24
  let c1_i32_25 : BitVec 32 := 1#32
  ⟨c0_i32_23, v47, c1_i32_25⟩

def k0_chk33 (v79 : IVec S16 32) : Prop :=
  (∀ a x, ((![v79] : Fin 1 → IVec S16 32) a x).toNat < S50000.size a)
theorem k0_idx34_inb : ∀ (v79 : IVec S16 32) (k0_hw33 : k0_chk33 v79), ∀ a x, ((![v79] : Fin 1 → IVec S16 32) a x).toNat < S50000.size a := fun v79 k0_hw33 => k0_hw33

def k0_chk34 (v82 : IVec S16 32) : Prop :=
  (∀ a x, ((![v82] : Fin 1 → IVec S16 32) a x).toNat < S50000.size a)
theorem k0_idx35_inb : ∀ (v82 : IVec S16 32) (k0_hw34 : k0_chk34 v82), ∀ a x, ((![v82] : Fin 1 → IVec S16 32) a x).toNat < S50000.size a := fun v82 k0_hw34 => k0_hw34

def k0_chk35 (v85 : IVec S16 32) : Prop :=
  (∀ a x, ((![v85] : Fin 1 → IVec S16 32) a x).toNat < S50000.size a)
theorem k0_idx36_inb : ∀ (v85 : IVec S16 32) (k0_hw35 : k0_chk35 v85), ∀ a x, ((![v85] : Fin 1 → IVec S16 32) a x).toNat < S50000.size a := fun v85 k0_hw35 => k0_hw35

def k0_chk36 (v88 : IVec S16 32) : Prop :=
  (∀ a x, ((![v88] : Fin 1 → IVec S16 32) a x).toNat < S50000.size a)
theorem k0_idx37_inb : ∀ (v88 : IVec S16 32) (k0_hw36 : k0_chk36 v88), ∀ a x, ((![v88] : Fin 1 → IVec S16 32) a x).toNat < S50000.size a := fun v88 k0_hw36 => k0_hw36

def k0_chk37 (v91 : IVec S16 32) : Prop :=
  (∀ a x, ((![v91] : Fin 1 → IVec S16 32) a x).toNat < S50000.size a)
theorem k0_idx38_inb : ∀ (v91 : IVec S16 32) (k0_hw37 : k0_chk37 v91), ∀ a x, ((![v91] : Fin 1 → IVec S16 32) a x).toNat < S50000.size a := fun v91 k0_hw37 => k0_hw37

def k0_chk38 (v96 : IVec S16 32) : Prop :=
  (∀ a x, ((![v96] : Fin 1 → IVec S16 32) a x).toNat < S50000.size a)
theorem k0_idx39_inb : ∀ (v96 : IVec S16 32) (k0_hw38 : k0_chk38 v96), ∀ a x, ((![v96] : Fin 1 → IVec S16 32) a x).toNat < S50000.size a := fun v96 k0_hw38 => k0_hw38

def k0_chk39 (v105 : IVec S16 32) : Prop :=
  (∀ a x, ((![v105] : Fin 1 → IVec S16 32) a x).toNat < S50000.size a)
theorem k0_idx40_inb : ∀ (v105 : IVec S16 32) (k0_hw39 : k0_chk39 v105), ∀ a x, ((![v105] : Fin 1 → IVec S16 32) a x).toNat < S50000.size a := fun v105 k0_hw39 => k0_hw39

def k0_chk40 (v114 : IVec S16 32) : Prop :=
  (∀ a x, ((![v114] : Fin 1 → IVec S16 32) a x).toNat < S50000.size a)
theorem k0_idx41_inb : ∀ (v114 : IVec S16 32) (k0_hw40 : k0_chk40 v114), ∀ a x, ((![v114] : Fin 1 → IVec S16 32) a x).toNat < S50000.size a := fun v114 k0_hw40 => k0_hw40

def k0_chk41 (v123 : IVec S16 32) : Prop :=
  (∀ a x, ((![v123] : Fin 1 → IVec S16 32) a x).toNat < S50000.size a)
theorem k0_idx42_inb : ∀ (v123 : IVec S16 32) (k0_hw41 : k0_chk41 v123), ∀ a x, ((![v123] : Fin 1 → IVec S16 32) a x).toNat < S50000.size a := fun v123 k0_hw41 => k0_hw41

def k0_chk42 (v132 : IVec S16 32) : Prop :=
  (∀ a x, ((![v132] : Fin 1 → IVec S16 32) a x).toNat < S50000.size a)
theorem k0_idx43_inb : ∀ (v132 : IVec S16 32) (k0_hw42 : k0_chk42 v132), ∀ a x, ((![v132] : Fin 1 → IVec S16 32) a x).toNat < S50000.size a := fun v132 k0_hw42 => k0_hw42

def k0_chk43 (v141 : IVec S16 32) : Prop :=
  (∀ a x, ((![v141] : Fin 1 → IVec S16 32) a x).toNat < S50000.size a)
theorem k0_idx44_inb : ∀ (v141 : IVec S16 32) (k0_hw43 : k0_chk43 v141), ∀ a x, ((![v141] : Fin 1 → IVec S16 32) a x).toNat < S50000.size a := fun v141 k0_hw43 => k0_hw43

def k0_chk44 (v150 : IVec S16 32) : Prop :=
  (∀ a x, ((![v150] : Fin 1 → IVec S16 32) a x).toNat < S50000.size a)
theorem k0_idx45_inb : ∀ (v150 : IVec S16 32) (k0_hw44 : k0_chk44 v150), ∀ a x, ((![v150] : Fin 1 → IVec S16 32) a x).toNat < S50000.size a := fun v150 k0_hw44 => k0_hw44

def k0_chk45 (v159 : IVec S16 32) : Prop :=
  (∀ a x, ((![v159] : Fin 1 → IVec S16 32) a x).toNat < S50000.size a)
theorem k0_idx46_inb : ∀ (v159 : IVec S16 32) (k0_hw45 : k0_chk45 v159), ∀ a x, ((![v159] : Fin 1 → IVec S16 32) a x).toNat < S50000.size a := fun v159 k0_hw45 => k0_hw45

def k0_chk46 (v168 : IVec S16 32) : Prop :=
  (∀ a x, ((![v168] : Fin 1 → IVec S16 32) a x).toNat < S50000.size a)
theorem k0_idx47_inb : ∀ (v168 : IVec S16 32) (k0_hw46 : k0_chk46 v168), ∀ a x, ((![v168] : Fin 1 → IVec S16 32) a x).toNat < S50000.size a := fun v168 k0_hw46 => k0_hw46

def k0_chk47 (v177 : IVec S16 32) : Prop :=
  (∀ a x, ((![v177] : Fin 1 → IVec S16 32) a x).toNat < S50000.size a)
theorem k0_idx48_inb : ∀ (v177 : IVec S16 32) (k0_hw47 : k0_chk47 v177), ∀ a x, ((![v177] : Fin 1 → IVec S16 32) a x).toNat < S50000.size a := fun v177 k0_hw47 => k0_hw47

def k0_chk48 (v186 : IVec S16 32) : Prop :=
  (∀ a x, ((![v186] : Fin 1 → IVec S16 32) a x).toNat < S50000.size a)
theorem k0_idx49_inb : ∀ (v186 : IVec S16 32) (k0_hw48 : k0_chk48 v186), ∀ a x, ((![v186] : Fin 1 → IVec S16 32) a x).toNat < S50000.size a := fun v186 k0_hw48 => k0_hw48

def k0_chk49 (v195 : IVec S16 32) : Prop :=
  (∀ a x, ((![v195] : Fin 1 → IVec S16 32) a x).toNat < S50000.size a)
theorem k0_idx50_inb : ∀ (v195 : IVec S16 32) (k0_hw49 : k0_chk49 v195), ∀ a x, ((![v195] : Fin 1 → IVec S16 32) a x).toNat < S50000.size a := fun v195 k0_hw49 => k0_hw49

def k0_chk50 (v204 : IVec S16 32) : Prop :=
  (∀ a x, ((![v204] : Fin 1 → IVec S16 32) a x).toNat < S50000.size a)
theorem k0_idx51_inb : ∀ (v204 : IVec S16 32) (k0_hw50 : k0_chk50 v204), ∀ a x, ((![v204] : Fin 1 → IVec S16 32) a x).toNat < S50000.size a := fun v204 k0_hw50 => k0_hw50

def k0_chk51 (v213 : IVec S16 32) : Prop :=
  (∀ a x, ((![v213] : Fin 1 → IVec S16 32) a x).toNat < S50000.size a)
theorem k0_idx52_inb : ∀ (v213 : IVec S16 32) (k0_hw51 : k0_chk51 v213), ∀ a x, ((![v213] : Fin 1 → IVec S16 32) a x).toNat < S50000.size a := fun v213 k0_hw51 => k0_hw51

def k0_chk52 (v222 : IVec S16 32) : Prop :=
  (∀ a x, ((![v222] : Fin 1 → IVec S16 32) a x).toNat < S50000.size a)
theorem k0_idx53_inb : ∀ (v222 : IVec S16 32) (k0_hw52 : k0_chk52 v222), ∀ a x, ((![v222] : Fin 1 → IVec S16 32) a x).toNat < S50000.size a := fun v222 k0_hw52 => k0_hw52

def k0_chk53 (v231 : IVec S16 32) : Prop :=
  (∀ a x, ((![v231] : Fin 1 → IVec S16 32) a x).toNat < S50000.size a)
theorem k0_idx54_inb : ∀ (v231 : IVec S16 32) (k0_hw53 : k0_chk53 v231), ∀ a x, ((![v231] : Fin 1 → IVec S16 32) a x).toNat < S50000.size a := fun v231 k0_hw53 => k0_hw53

def k0_chk54 (v240 : IVec S16 32) : Prop :=
  (∀ a x, ((![v240] : Fin 1 → IVec S16 32) a x).toNat < S50000.size a)
theorem k0_idx55_inb : ∀ (v240 : IVec S16 32) (k0_hw54 : k0_chk54 v240), ∀ a x, ((![v240] : Fin 1 → IVec S16 32) a x).toNat < S50000.size a := fun v240 k0_hw54 => k0_hw54

def k0_chk55 (v249 : IVec S16 32) : Prop :=
  (∀ a x, ((![v249] : Fin 1 → IVec S16 32) a x).toNat < S50000.size a)
theorem k0_idx56_inb : ∀ (v249 : IVec S16 32) (k0_hw55 : k0_chk55 v249), ∀ a x, ((![v249] : Fin 1 → IVec S16 32) a x).toNat < S50000.size a := fun v249 k0_hw55 => k0_hw55

def k0_chk56 (v258 : IVec S16 32) : Prop :=
  (∀ a x, ((![v258] : Fin 1 → IVec S16 32) a x).toNat < S50000.size a)
theorem k0_idx57_inb : ∀ (v258 : IVec S16 32) (k0_hw56 : k0_chk56 v258), ∀ a x, ((![v258] : Fin 1 → IVec S16 32) a x).toNat < S50000.size a := fun v258 k0_hw56 => k0_hw56

def k0_chk57 (v267 : IVec S16 32) : Prop :=
  (∀ a x, ((![v267] : Fin 1 → IVec S16 32) a x).toNat < S50000.size a)
theorem k0_idx58_inb : ∀ (v267 : IVec S16 32) (k0_hw57 : k0_chk57 v267), ∀ a x, ((![v267] : Fin 1 → IVec S16 32) a x).toNat < S50000.size a := fun v267 k0_hw57 => k0_hw57

def k0_chk59 (v277 : IVec S16 32) : Prop :=
  (∀ a x, ((![v277] : Fin 1 → IVec S16 32) a x).toNat < S8000.size a)
theorem k0_idx60_inb : ∀ (v277 : IVec S16 32) (k0_hw59 : k0_chk59 v277), ∀ a x, ((![v277] : Fin 1 → IVec S16 32) a x).toNat < S8000.size a := fun v277 k0_hw59 => k0_hw59

def k0_chk60 (v280 : IVec S16 32) : Prop :=
  (∀ a x, ((![v280] : Fin 1 → IVec S16 32) a x).toNat < S8000.size a)
theorem k0_idx61_inb : ∀ (v280 : IVec S16 32) (k0_hw60 : k0_chk60 v280), ∀ a x, ((![v280] : Fin 1 → IVec S16 32) a x).toNat < S8000.size a := fun v280 k0_hw60 => k0_hw60

def k0_chk61 (v283 : IVec S16 32) : Prop :=
  (∀ a x, ((![v283] : Fin 1 → IVec S16 32) a x).toNat < S8000.size a)
theorem k0_idx62_inb : ∀ (v283 : IVec S16 32) (k0_hw61 : k0_chk61 v283), ∀ a x, ((![v283] : Fin 1 → IVec S16 32) a x).toNat < S8000.size a := fun v283 k0_hw61 => k0_hw61

def k0_chk58 (v274 : IVec S16 32) : Prop :=
  (∀ a x, ((![v274] : Fin 1 → IVec S16 32) a x).toNat < S8000.size a) ∧
  (∀ a x, ((![v274] : Fin 1 → IVec S16 32) a x).toNat < S8000.size a)
theorem k0_idx59_inb : ∀ (v274 : IVec S16 32) (k0_hw58 : k0_chk58 v274), ∀ a x, ((![v274] : Fin 1 → IVec S16 32) a x).toNat < S8000.size a := fun v274 k0_hw58 => k0_hw58.1
theorem k0_idx63_inb : ∀ (v274 : IVec S16 32) (k0_hw58 : k0_chk58 v274), ∀ a x, ((![v274] : Fin 1 → IVec S16 32) a x).toNat < S8000.size a := fun v274 k0_hw58 => k0_hw58.2

def k0_chk62 (v338 : IVec S16 32) : Prop :=
  (∀ a x, ((![v338] : Fin 1 → IVec S16 32) a x).toNat < S8000.size a)
theorem k0_idx64_inb : ∀ (v338 : IVec S16 32) (k0_hw62 : k0_chk62 v338), ∀ a x, ((![v338] : Fin 1 → IVec S16 32) a x).toNat < S8000.size a := fun v338 k0_hw62 => k0_hw62

def k0_chk63 (v340 : IVec S16 32) : Prop :=
  (∀ a x, ((![v340] : Fin 1 → IVec S16 32) a x).toNat < S8000.size a)
theorem k0_idx65_inb : ∀ (v340 : IVec S16 32) (k0_hw63 : k0_chk63 v340), ∀ a x, ((![v340] : Fin 1 → IVec S16 32) a x).toNat < S8000.size a := fun v340 k0_hw63 => k0_hw63

def k0_chk64 (v342 : IVec S16 32) : Prop :=
  (∀ a x, ((![v342] : Fin 1 → IVec S16 32) a x).toNat < S8000.size a)
theorem k0_idx66_inb : ∀ (v342 : IVec S16 32) (k0_hw64 : k0_chk64 v342), ∀ a x, ((![v342] : Fin 1 → IVec S16 32) a x).toNat < S8000.size a := fun v342 k0_hw64 => k0_hw64
def k0_off6 (k0_t2 : Fin k0_t2_loop.trips) : Fin 1 → Nat :=
  let c0_i32_23 : BitVec 32 := 0#32
  let c1_i32_25 : BitVec 32 := 1#32
  let arg14 : BitVec 32 := Scf.iv c0_i32_23 c1_i32_25 k0_t2
  let c16_i32_125 : BitVec 32 := 16#32
  let v344 : BitVec 32 := Scalar.muli arg14 c16_i32_125
  let v345 : Index := Scalar.indexCast v344
  ![v345.toNat]
@[reducible] def k0_t3_loop : Scf.Loop 32 :=
  let c0_i32_32 : BitVec 32 := 0#32
  let c125_i32_33 : BitVec 32 := 125#32
  let v55 : BitVec 32 := Scalar.addi c0_i32_32 c125_i32_33
  let c1_i32_34 : BitVec 32 := 1#32
  ⟨c0_i32_32, v55, c1_i32_34⟩

def k0_chk65 (v79 : IVec S16 32) : Prop :=
  (∀ a x, ((![v79] : Fin 1 → IVec S16 32) a x).toNat < S50000.size a)
theorem k0_idx67_inb : ∀ (v79 : IVec S16 32) (k0_hw65 : k0_chk65 v79), ∀ a x, ((![v79] : Fin 1 → IVec S16 32) a x).toNat < S50000.size a := fun v79 k0_hw65 => k0_hw65

def k0_chk66 (v82 : IVec S16 32) : Prop :=
  (∀ a x, ((![v82] : Fin 1 → IVec S16 32) a x).toNat < S50000.size a)
theorem k0_idx68_inb : ∀ (v82 : IVec S16 32) (k0_hw66 : k0_chk66 v82), ∀ a x, ((![v82] : Fin 1 → IVec S16 32) a x).toNat < S50000.size a := fun v82 k0_hw66 => k0_hw66

def k0_chk67 (v85 : IVec S16 32) : Prop :=
  (∀ a x, ((![v85] : Fin 1 → IVec S16 32) a x).toNat < S50000.size a)
theorem k0_idx69_inb : ∀ (v85 : IVec S16 32) (k0_hw67 : k0_chk67 v85), ∀ a x, ((![v85] : Fin 1 → IVec S16 32) a x).toNat < S50000.size a := fun v85 k0_hw67 => k0_hw67

def k0_chk68 (v88 : IVec S16 32) : Prop :=
  (∀ a x, ((![v88] : Fin 1 → IVec S16 32) a x).toNat < S50000.size a)
theorem k0_idx70_inb : ∀ (v88 : IVec S16 32) (k0_hw68 : k0_chk68 v88), ∀ a x, ((![v88] : Fin 1 → IVec S16 32) a x).toNat < S50000.size a := fun v88 k0_hw68 => k0_hw68

def k0_chk69 (v91 : IVec S16 32) : Prop :=
  (∀ a x, ((![v91] : Fin 1 → IVec S16 32) a x).toNat < S50000.size a)
theorem k0_idx71_inb : ∀ (v91 : IVec S16 32) (k0_hw69 : k0_chk69 v91), ∀ a x, ((![v91] : Fin 1 → IVec S16 32) a x).toNat < S50000.size a := fun v91 k0_hw69 => k0_hw69

def k0_chk70 (v96 : IVec S16 32) : Prop :=
  (∀ a x, ((![v96] : Fin 1 → IVec S16 32) a x).toNat < S50000.size a)
theorem k0_idx72_inb : ∀ (v96 : IVec S16 32) (k0_hw70 : k0_chk70 v96), ∀ a x, ((![v96] : Fin 1 → IVec S16 32) a x).toNat < S50000.size a := fun v96 k0_hw70 => k0_hw70

def k0_chk71 (v105 : IVec S16 32) : Prop :=
  (∀ a x, ((![v105] : Fin 1 → IVec S16 32) a x).toNat < S50000.size a)
theorem k0_idx73_inb : ∀ (v105 : IVec S16 32) (k0_hw71 : k0_chk71 v105), ∀ a x, ((![v105] : Fin 1 → IVec S16 32) a x).toNat < S50000.size a := fun v105 k0_hw71 => k0_hw71

def k0_chk72 (v114 : IVec S16 32) : Prop :=
  (∀ a x, ((![v114] : Fin 1 → IVec S16 32) a x).toNat < S50000.size a)
theorem k0_idx74_inb : ∀ (v114 : IVec S16 32) (k0_hw72 : k0_chk72 v114), ∀ a x, ((![v114] : Fin 1 → IVec S16 32) a x).toNat < S50000.size a := fun v114 k0_hw72 => k0_hw72

def k0_chk73 (v123 : IVec S16 32) : Prop :=
  (∀ a x, ((![v123] : Fin 1 → IVec S16 32) a x).toNat < S50000.size a)
theorem k0_idx75_inb : ∀ (v123 : IVec S16 32) (k0_hw73 : k0_chk73 v123), ∀ a x, ((![v123] : Fin 1 → IVec S16 32) a x).toNat < S50000.size a := fun v123 k0_hw73 => k0_hw73

def k0_chk74 (v132 : IVec S16 32) : Prop :=
  (∀ a x, ((![v132] : Fin 1 → IVec S16 32) a x).toNat < S50000.size a)
theorem k0_idx76_inb : ∀ (v132 : IVec S16 32) (k0_hw74 : k0_chk74 v132), ∀ a x, ((![v132] : Fin 1 → IVec S16 32) a x).toNat < S50000.size a := fun v132 k0_hw74 => k0_hw74

def k0_chk75 (v141 : IVec S16 32) : Prop :=
  (∀ a x, ((![v141] : Fin 1 → IVec S16 32) a x).toNat < S50000.size a)
theorem k0_idx77_inb : ∀ (v141 : IVec S16 32) (k0_hw75 : k0_chk75 v141), ∀ a x, ((![v141] : Fin 1 → IVec S16 32) a x).toNat < S50000.size a := fun v141 k0_hw75 => k0_hw75

def k0_chk76 (v150 : IVec S16 32) : Prop :=
  (∀ a x, ((![v150] : Fin 1 → IVec S16 32) a x).toNat < S50000.size a)
theorem k0_idx78_inb : ∀ (v150 : IVec S16 32) (k0_hw76 : k0_chk76 v150), ∀ a x, ((![v150] : Fin 1 → IVec S16 32) a x).toNat < S50000.size a := fun v150 k0_hw76 => k0_hw76

def k0_chk77 (v159 : IVec S16 32) : Prop :=
  (∀ a x, ((![v159] : Fin 1 → IVec S16 32) a x).toNat < S50000.size a)
theorem k0_idx79_inb : ∀ (v159 : IVec S16 32) (k0_hw77 : k0_chk77 v159), ∀ a x, ((![v159] : Fin 1 → IVec S16 32) a x).toNat < S50000.size a := fun v159 k0_hw77 => k0_hw77

def k0_chk78 (v168 : IVec S16 32) : Prop :=
  (∀ a x, ((![v168] : Fin 1 → IVec S16 32) a x).toNat < S50000.size a)
theorem k0_idx80_inb : ∀ (v168 : IVec S16 32) (k0_hw78 : k0_chk78 v168), ∀ a x, ((![v168] : Fin 1 → IVec S16 32) a x).toNat < S50000.size a := fun v168 k0_hw78 => k0_hw78

def k0_chk79 (v177 : IVec S16 32) : Prop :=
  (∀ a x, ((![v177] : Fin 1 → IVec S16 32) a x).toNat < S50000.size a)
theorem k0_idx81_inb : ∀ (v177 : IVec S16 32) (k0_hw79 : k0_chk79 v177), ∀ a x, ((![v177] : Fin 1 → IVec S16 32) a x).toNat < S50000.size a := fun v177 k0_hw79 => k0_hw79

def k0_chk80 (v186 : IVec S16 32) : Prop :=
  (∀ a x, ((![v186] : Fin 1 → IVec S16 32) a x).toNat < S50000.size a)
theorem k0_idx82_inb : ∀ (v186 : IVec S16 32) (k0_hw80 : k0_chk80 v186), ∀ a x, ((![v186] : Fin 1 → IVec S16 32) a x).toNat < S50000.size a := fun v186 k0_hw80 => k0_hw80

def k0_chk81 (v195 : IVec S16 32) : Prop :=
  (∀ a x, ((![v195] : Fin 1 → IVec S16 32) a x).toNat < S50000.size a)
theorem k0_idx83_inb : ∀ (v195 : IVec S16 32) (k0_hw81 : k0_chk81 v195), ∀ a x, ((![v195] : Fin 1 → IVec S16 32) a x).toNat < S50000.size a := fun v195 k0_hw81 => k0_hw81

def k0_chk82 (v204 : IVec S16 32) : Prop :=
  (∀ a x, ((![v204] : Fin 1 → IVec S16 32) a x).toNat < S50000.size a)
theorem k0_idx84_inb : ∀ (v204 : IVec S16 32) (k0_hw82 : k0_chk82 v204), ∀ a x, ((![v204] : Fin 1 → IVec S16 32) a x).toNat < S50000.size a := fun v204 k0_hw82 => k0_hw82

def k0_chk83 (v213 : IVec S16 32) : Prop :=
  (∀ a x, ((![v213] : Fin 1 → IVec S16 32) a x).toNat < S50000.size a)
theorem k0_idx85_inb : ∀ (v213 : IVec S16 32) (k0_hw83 : k0_chk83 v213), ∀ a x, ((![v213] : Fin 1 → IVec S16 32) a x).toNat < S50000.size a := fun v213 k0_hw83 => k0_hw83

def k0_chk84 (v222 : IVec S16 32) : Prop :=
  (∀ a x, ((![v222] : Fin 1 → IVec S16 32) a x).toNat < S50000.size a)
theorem k0_idx86_inb : ∀ (v222 : IVec S16 32) (k0_hw84 : k0_chk84 v222), ∀ a x, ((![v222] : Fin 1 → IVec S16 32) a x).toNat < S50000.size a := fun v222 k0_hw84 => k0_hw84

def k0_chk85 (v231 : IVec S16 32) : Prop :=
  (∀ a x, ((![v231] : Fin 1 → IVec S16 32) a x).toNat < S50000.size a)
theorem k0_idx87_inb : ∀ (v231 : IVec S16 32) (k0_hw85 : k0_chk85 v231), ∀ a x, ((![v231] : Fin 1 → IVec S16 32) a x).toNat < S50000.size a := fun v231 k0_hw85 => k0_hw85

def k0_chk86 (v240 : IVec S16 32) : Prop :=
  (∀ a x, ((![v240] : Fin 1 → IVec S16 32) a x).toNat < S50000.size a)
theorem k0_idx88_inb : ∀ (v240 : IVec S16 32) (k0_hw86 : k0_chk86 v240), ∀ a x, ((![v240] : Fin 1 → IVec S16 32) a x).toNat < S50000.size a := fun v240 k0_hw86 => k0_hw86

def k0_chk87 (v249 : IVec S16 32) : Prop :=
  (∀ a x, ((![v249] : Fin 1 → IVec S16 32) a x).toNat < S50000.size a)
theorem k0_idx89_inb : ∀ (v249 : IVec S16 32) (k0_hw87 : k0_chk87 v249), ∀ a x, ((![v249] : Fin 1 → IVec S16 32) a x).toNat < S50000.size a := fun v249 k0_hw87 => k0_hw87

def k0_chk88 (v258 : IVec S16 32) : Prop :=
  (∀ a x, ((![v258] : Fin 1 → IVec S16 32) a x).toNat < S50000.size a)
theorem k0_idx90_inb : ∀ (v258 : IVec S16 32) (k0_hw88 : k0_chk88 v258), ∀ a x, ((![v258] : Fin 1 → IVec S16 32) a x).toNat < S50000.size a := fun v258 k0_hw88 => k0_hw88

def k0_chk89 (v267 : IVec S16 32) : Prop :=
  (∀ a x, ((![v267] : Fin 1 → IVec S16 32) a x).toNat < S50000.size a)
theorem k0_idx91_inb : ∀ (v267 : IVec S16 32) (k0_hw89 : k0_chk89 v267), ∀ a x, ((![v267] : Fin 1 → IVec S16 32) a x).toNat < S50000.size a := fun v267 k0_hw89 => k0_hw89

def k0_chk91 (v277 : IVec S16 32) : Prop :=
  (∀ a x, ((![v277] : Fin 1 → IVec S16 32) a x).toNat < S8000.size a)
theorem k0_idx93_inb : ∀ (v277 : IVec S16 32) (k0_hw91 : k0_chk91 v277), ∀ a x, ((![v277] : Fin 1 → IVec S16 32) a x).toNat < S8000.size a := fun v277 k0_hw91 => k0_hw91

def k0_chk92 (v280 : IVec S16 32) : Prop :=
  (∀ a x, ((![v280] : Fin 1 → IVec S16 32) a x).toNat < S8000.size a)
theorem k0_idx94_inb : ∀ (v280 : IVec S16 32) (k0_hw92 : k0_chk92 v280), ∀ a x, ((![v280] : Fin 1 → IVec S16 32) a x).toNat < S8000.size a := fun v280 k0_hw92 => k0_hw92

def k0_chk93 (v283 : IVec S16 32) : Prop :=
  (∀ a x, ((![v283] : Fin 1 → IVec S16 32) a x).toNat < S8000.size a)
theorem k0_idx95_inb : ∀ (v283 : IVec S16 32) (k0_hw93 : k0_chk93 v283), ∀ a x, ((![v283] : Fin 1 → IVec S16 32) a x).toNat < S8000.size a := fun v283 k0_hw93 => k0_hw93

def k0_chk90 (v274 : IVec S16 32) : Prop :=
  (∀ a x, ((![v274] : Fin 1 → IVec S16 32) a x).toNat < S8000.size a) ∧
  (∀ a x, ((![v274] : Fin 1 → IVec S16 32) a x).toNat < S8000.size a)
theorem k0_idx92_inb : ∀ (v274 : IVec S16 32) (k0_hw90 : k0_chk90 v274), ∀ a x, ((![v274] : Fin 1 → IVec S16 32) a x).toNat < S8000.size a := fun v274 k0_hw90 => k0_hw90.1
theorem k0_idx96_inb : ∀ (v274 : IVec S16 32) (k0_hw90 : k0_chk90 v274), ∀ a x, ((![v274] : Fin 1 → IVec S16 32) a x).toNat < S8000.size a := fun v274 k0_hw90 => k0_hw90.2

def k0_chk94 (v338 : IVec S16 32) : Prop :=
  (∀ a x, ((![v338] : Fin 1 → IVec S16 32) a x).toNat < S8000.size a)
theorem k0_idx97_inb : ∀ (v338 : IVec S16 32) (k0_hw94 : k0_chk94 v338), ∀ a x, ((![v338] : Fin 1 → IVec S16 32) a x).toNat < S8000.size a := fun v338 k0_hw94 => k0_hw94

def k0_chk95 (v340 : IVec S16 32) : Prop :=
  (∀ a x, ((![v340] : Fin 1 → IVec S16 32) a x).toNat < S8000.size a)
theorem k0_idx98_inb : ∀ (v340 : IVec S16 32) (k0_hw95 : k0_chk95 v340), ∀ a x, ((![v340] : Fin 1 → IVec S16 32) a x).toNat < S8000.size a := fun v340 k0_hw95 => k0_hw95

def k0_chk96 (v342 : IVec S16 32) : Prop :=
  (∀ a x, ((![v342] : Fin 1 → IVec S16 32) a x).toNat < S8000.size a)
theorem k0_idx99_inb : ∀ (v342 : IVec S16 32) (k0_hw96 : k0_chk96 v342), ∀ a x, ((![v342] : Fin 1 → IVec S16 32) a x).toNat < S8000.size a := fun v342 k0_hw96 => k0_hw96
def k0_off7 (k0_t3 : Fin k0_t3_loop.trips) : Fin 1 → Nat :=
  let c0_i32_32 : BitVec 32 := 0#32
  let c1_i32_34 : BitVec 32 := 1#32
  let arg14 : BitVec 32 := Scf.iv c0_i32_32 c1_i32_34 k0_t3
  let c16_i32_125 : BitVec 32 := 16#32
  let v344 : BitVec 32 := Scalar.muli arg14 c16_i32_125
  let v345 : Index := Scalar.indexCast v344
  ![v345.toNat]
@[reducible] def k0_t4_loop : Scf.Loop 32 :=
  let c0_i32_41 : BitVec 32 := 0#32
  let c125_i32_42 : BitVec 32 := 125#32
  let v63 : BitVec 32 := Scalar.addi c0_i32_41 c125_i32_42
  let c1_i32_43 : BitVec 32 := 1#32
  ⟨c0_i32_41, v63, c1_i32_43⟩

def k0_chk97 (v79 : IVec S16 32) : Prop :=
  (∀ a x, ((![v79] : Fin 1 → IVec S16 32) a x).toNat < S50000.size a)
theorem k0_idx100_inb : ∀ (v79 : IVec S16 32) (k0_hw97 : k0_chk97 v79), ∀ a x, ((![v79] : Fin 1 → IVec S16 32) a x).toNat < S50000.size a := fun v79 k0_hw97 => k0_hw97

def k0_chk98 (v82 : IVec S16 32) : Prop :=
  (∀ a x, ((![v82] : Fin 1 → IVec S16 32) a x).toNat < S50000.size a)
theorem k0_idx101_inb : ∀ (v82 : IVec S16 32) (k0_hw98 : k0_chk98 v82), ∀ a x, ((![v82] : Fin 1 → IVec S16 32) a x).toNat < S50000.size a := fun v82 k0_hw98 => k0_hw98

def k0_chk99 (v85 : IVec S16 32) : Prop :=
  (∀ a x, ((![v85] : Fin 1 → IVec S16 32) a x).toNat < S50000.size a)
theorem k0_idx102_inb : ∀ (v85 : IVec S16 32) (k0_hw99 : k0_chk99 v85), ∀ a x, ((![v85] : Fin 1 → IVec S16 32) a x).toNat < S50000.size a := fun v85 k0_hw99 => k0_hw99

def k0_chk100 (v88 : IVec S16 32) : Prop :=
  (∀ a x, ((![v88] : Fin 1 → IVec S16 32) a x).toNat < S50000.size a)
theorem k0_idx103_inb : ∀ (v88 : IVec S16 32) (k0_hw100 : k0_chk100 v88), ∀ a x, ((![v88] : Fin 1 → IVec S16 32) a x).toNat < S50000.size a := fun v88 k0_hw100 => k0_hw100

def k0_chk101 (v91 : IVec S16 32) : Prop :=
  (∀ a x, ((![v91] : Fin 1 → IVec S16 32) a x).toNat < S50000.size a)
theorem k0_idx104_inb : ∀ (v91 : IVec S16 32) (k0_hw101 : k0_chk101 v91), ∀ a x, ((![v91] : Fin 1 → IVec S16 32) a x).toNat < S50000.size a := fun v91 k0_hw101 => k0_hw101

def k0_chk102 (v96 : IVec S16 32) : Prop :=
  (∀ a x, ((![v96] : Fin 1 → IVec S16 32) a x).toNat < S50000.size a)
theorem k0_idx105_inb : ∀ (v96 : IVec S16 32) (k0_hw102 : k0_chk102 v96), ∀ a x, ((![v96] : Fin 1 → IVec S16 32) a x).toNat < S50000.size a := fun v96 k0_hw102 => k0_hw102

def k0_chk103 (v105 : IVec S16 32) : Prop :=
  (∀ a x, ((![v105] : Fin 1 → IVec S16 32) a x).toNat < S50000.size a)
theorem k0_idx106_inb : ∀ (v105 : IVec S16 32) (k0_hw103 : k0_chk103 v105), ∀ a x, ((![v105] : Fin 1 → IVec S16 32) a x).toNat < S50000.size a := fun v105 k0_hw103 => k0_hw103

def k0_chk104 (v114 : IVec S16 32) : Prop :=
  (∀ a x, ((![v114] : Fin 1 → IVec S16 32) a x).toNat < S50000.size a)
theorem k0_idx107_inb : ∀ (v114 : IVec S16 32) (k0_hw104 : k0_chk104 v114), ∀ a x, ((![v114] : Fin 1 → IVec S16 32) a x).toNat < S50000.size a := fun v114 k0_hw104 => k0_hw104

def k0_chk105 (v123 : IVec S16 32) : Prop :=
  (∀ a x, ((![v123] : Fin 1 → IVec S16 32) a x).toNat < S50000.size a)
theorem k0_idx108_inb : ∀ (v123 : IVec S16 32) (k0_hw105 : k0_chk105 v123), ∀ a x, ((![v123] : Fin 1 → IVec S16 32) a x).toNat < S50000.size a := fun v123 k0_hw105 => k0_hw105

def k0_chk106 (v132 : IVec S16 32) : Prop :=
  (∀ a x, ((![v132] : Fin 1 → IVec S16 32) a x).toNat < S50000.size a)
theorem k0_idx109_inb : ∀ (v132 : IVec S16 32) (k0_hw106 : k0_chk106 v132), ∀ a x, ((![v132] : Fin 1 → IVec S16 32) a x).toNat < S50000.size a := fun v132 k0_hw106 => k0_hw106

def k0_chk107 (v141 : IVec S16 32) : Prop :=
  (∀ a x, ((![v141] : Fin 1 → IVec S16 32) a x).toNat < S50000.size a)
theorem k0_idx110_inb : ∀ (v141 : IVec S16 32) (k0_hw107 : k0_chk107 v141), ∀ a x, ((![v141] : Fin 1 → IVec S16 32) a x).toNat < S50000.size a := fun v141 k0_hw107 => k0_hw107

def k0_chk108 (v150 : IVec S16 32) : Prop :=
  (∀ a x, ((![v150] : Fin 1 → IVec S16 32) a x).toNat < S50000.size a)
theorem k0_idx111_inb : ∀ (v150 : IVec S16 32) (k0_hw108 : k0_chk108 v150), ∀ a x, ((![v150] : Fin 1 → IVec S16 32) a x).toNat < S50000.size a := fun v150 k0_hw108 => k0_hw108

def k0_chk109 (v159 : IVec S16 32) : Prop :=
  (∀ a x, ((![v159] : Fin 1 → IVec S16 32) a x).toNat < S50000.size a)
theorem k0_idx112_inb : ∀ (v159 : IVec S16 32) (k0_hw109 : k0_chk109 v159), ∀ a x, ((![v159] : Fin 1 → IVec S16 32) a x).toNat < S50000.size a := fun v159 k0_hw109 => k0_hw109

def k0_chk110 (v168 : IVec S16 32) : Prop :=
  (∀ a x, ((![v168] : Fin 1 → IVec S16 32) a x).toNat < S50000.size a)
theorem k0_idx113_inb : ∀ (v168 : IVec S16 32) (k0_hw110 : k0_chk110 v168), ∀ a x, ((![v168] : Fin 1 → IVec S16 32) a x).toNat < S50000.size a := fun v168 k0_hw110 => k0_hw110

def k0_chk111 (v177 : IVec S16 32) : Prop :=
  (∀ a x, ((![v177] : Fin 1 → IVec S16 32) a x).toNat < S50000.size a)
theorem k0_idx114_inb : ∀ (v177 : IVec S16 32) (k0_hw111 : k0_chk111 v177), ∀ a x, ((![v177] : Fin 1 → IVec S16 32) a x).toNat < S50000.size a := fun v177 k0_hw111 => k0_hw111

def k0_chk112 (v186 : IVec S16 32) : Prop :=
  (∀ a x, ((![v186] : Fin 1 → IVec S16 32) a x).toNat < S50000.size a)
theorem k0_idx115_inb : ∀ (v186 : IVec S16 32) (k0_hw112 : k0_chk112 v186), ∀ a x, ((![v186] : Fin 1 → IVec S16 32) a x).toNat < S50000.size a := fun v186 k0_hw112 => k0_hw112

def k0_chk113 (v195 : IVec S16 32) : Prop :=
  (∀ a x, ((![v195] : Fin 1 → IVec S16 32) a x).toNat < S50000.size a)
theorem k0_idx116_inb : ∀ (v195 : IVec S16 32) (k0_hw113 : k0_chk113 v195), ∀ a x, ((![v195] : Fin 1 → IVec S16 32) a x).toNat < S50000.size a := fun v195 k0_hw113 => k0_hw113

def k0_chk114 (v204 : IVec S16 32) : Prop :=
  (∀ a x, ((![v204] : Fin 1 → IVec S16 32) a x).toNat < S50000.size a)
theorem k0_idx117_inb : ∀ (v204 : IVec S16 32) (k0_hw114 : k0_chk114 v204), ∀ a x, ((![v204] : Fin 1 → IVec S16 32) a x).toNat < S50000.size a := fun v204 k0_hw114 => k0_hw114

def k0_chk115 (v213 : IVec S16 32) : Prop :=
  (∀ a x, ((![v213] : Fin 1 → IVec S16 32) a x).toNat < S50000.size a)
theorem k0_idx118_inb : ∀ (v213 : IVec S16 32) (k0_hw115 : k0_chk115 v213), ∀ a x, ((![v213] : Fin 1 → IVec S16 32) a x).toNat < S50000.size a := fun v213 k0_hw115 => k0_hw115

def k0_chk116 (v222 : IVec S16 32) : Prop :=
  (∀ a x, ((![v222] : Fin 1 → IVec S16 32) a x).toNat < S50000.size a)
theorem k0_idx119_inb : ∀ (v222 : IVec S16 32) (k0_hw116 : k0_chk116 v222), ∀ a x, ((![v222] : Fin 1 → IVec S16 32) a x).toNat < S50000.size a := fun v222 k0_hw116 => k0_hw116

def k0_chk117 (v231 : IVec S16 32) : Prop :=
  (∀ a x, ((![v231] : Fin 1 → IVec S16 32) a x).toNat < S50000.size a)
theorem k0_idx120_inb : ∀ (v231 : IVec S16 32) (k0_hw117 : k0_chk117 v231), ∀ a x, ((![v231] : Fin 1 → IVec S16 32) a x).toNat < S50000.size a := fun v231 k0_hw117 => k0_hw117

def k0_chk118 (v240 : IVec S16 32) : Prop :=
  (∀ a x, ((![v240] : Fin 1 → IVec S16 32) a x).toNat < S50000.size a)
theorem k0_idx121_inb : ∀ (v240 : IVec S16 32) (k0_hw118 : k0_chk118 v240), ∀ a x, ((![v240] : Fin 1 → IVec S16 32) a x).toNat < S50000.size a := fun v240 k0_hw118 => k0_hw118

def k0_chk119 (v249 : IVec S16 32) : Prop :=
  (∀ a x, ((![v249] : Fin 1 → IVec S16 32) a x).toNat < S50000.size a)
theorem k0_idx122_inb : ∀ (v249 : IVec S16 32) (k0_hw119 : k0_chk119 v249), ∀ a x, ((![v249] : Fin 1 → IVec S16 32) a x).toNat < S50000.size a := fun v249 k0_hw119 => k0_hw119

def k0_chk120 (v258 : IVec S16 32) : Prop :=
  (∀ a x, ((![v258] : Fin 1 → IVec S16 32) a x).toNat < S50000.size a)
theorem k0_idx123_inb : ∀ (v258 : IVec S16 32) (k0_hw120 : k0_chk120 v258), ∀ a x, ((![v258] : Fin 1 → IVec S16 32) a x).toNat < S50000.size a := fun v258 k0_hw120 => k0_hw120

def k0_chk121 (v267 : IVec S16 32) : Prop :=
  (∀ a x, ((![v267] : Fin 1 → IVec S16 32) a x).toNat < S50000.size a)
theorem k0_idx124_inb : ∀ (v267 : IVec S16 32) (k0_hw121 : k0_chk121 v267), ∀ a x, ((![v267] : Fin 1 → IVec S16 32) a x).toNat < S50000.size a := fun v267 k0_hw121 => k0_hw121

def k0_chk123 (v277 : IVec S16 32) : Prop :=
  (∀ a x, ((![v277] : Fin 1 → IVec S16 32) a x).toNat < S8000.size a)
theorem k0_idx126_inb : ∀ (v277 : IVec S16 32) (k0_hw123 : k0_chk123 v277), ∀ a x, ((![v277] : Fin 1 → IVec S16 32) a x).toNat < S8000.size a := fun v277 k0_hw123 => k0_hw123

def k0_chk124 (v280 : IVec S16 32) : Prop :=
  (∀ a x, ((![v280] : Fin 1 → IVec S16 32) a x).toNat < S8000.size a)
theorem k0_idx127_inb : ∀ (v280 : IVec S16 32) (k0_hw124 : k0_chk124 v280), ∀ a x, ((![v280] : Fin 1 → IVec S16 32) a x).toNat < S8000.size a := fun v280 k0_hw124 => k0_hw124

def k0_chk125 (v283 : IVec S16 32) : Prop :=
  (∀ a x, ((![v283] : Fin 1 → IVec S16 32) a x).toNat < S8000.size a)
theorem k0_idx128_inb : ∀ (v283 : IVec S16 32) (k0_hw125 : k0_chk125 v283), ∀ a x, ((![v283] : Fin 1 → IVec S16 32) a x).toNat < S8000.size a := fun v283 k0_hw125 => k0_hw125

def k0_chk122 (v274 : IVec S16 32) : Prop :=
  (∀ a x, ((![v274] : Fin 1 → IVec S16 32) a x).toNat < S8000.size a) ∧
  (∀ a x, ((![v274] : Fin 1 → IVec S16 32) a x).toNat < S8000.size a)
theorem k0_idx125_inb : ∀ (v274 : IVec S16 32) (k0_hw122 : k0_chk122 v274), ∀ a x, ((![v274] : Fin 1 → IVec S16 32) a x).toNat < S8000.size a := fun v274 k0_hw122 => k0_hw122.1
theorem k0_idx129_inb : ∀ (v274 : IVec S16 32) (k0_hw122 : k0_chk122 v274), ∀ a x, ((![v274] : Fin 1 → IVec S16 32) a x).toNat < S8000.size a := fun v274 k0_hw122 => k0_hw122.2

def k0_chk126 (v338 : IVec S16 32) : Prop :=
  (∀ a x, ((![v338] : Fin 1 → IVec S16 32) a x).toNat < S8000.size a)
theorem k0_idx130_inb : ∀ (v338 : IVec S16 32) (k0_hw126 : k0_chk126 v338), ∀ a x, ((![v338] : Fin 1 → IVec S16 32) a x).toNat < S8000.size a := fun v338 k0_hw126 => k0_hw126

def k0_chk127 (v340 : IVec S16 32) : Prop :=
  (∀ a x, ((![v340] : Fin 1 → IVec S16 32) a x).toNat < S8000.size a)
theorem k0_idx131_inb : ∀ (v340 : IVec S16 32) (k0_hw127 : k0_chk127 v340), ∀ a x, ((![v340] : Fin 1 → IVec S16 32) a x).toNat < S8000.size a := fun v340 k0_hw127 => k0_hw127

def k0_chk128 (v342 : IVec S16 32) : Prop :=
  (∀ a x, ((![v342] : Fin 1 → IVec S16 32) a x).toNat < S8000.size a)
theorem k0_idx132_inb : ∀ (v342 : IVec S16 32) (k0_hw128 : k0_chk128 v342), ∀ a x, ((![v342] : Fin 1 → IVec S16 32) a x).toNat < S8000.size a := fun v342 k0_hw128 => k0_hw128
def k0_off8 (k0_t4 : Fin k0_t4_loop.trips) : Fin 1 → Nat :=
  let c0_i32_41 : BitVec 32 := 0#32
  let c1_i32_43 : BitVec 32 := 1#32
  let arg14 : BitVec 32 := Scf.iv c0_i32_41 c1_i32_43 k0_t4
  let c16_i32_125 : BitVec 32 := 16#32
  let v344 : BitVec 32 := Scalar.muli arg14 c16_i32_125
  let v345 : Index := Scalar.indexCast v344
  ![v345.toNat]
@[reducible] def k0_t5_loop : Scf.Loop 32 :=
  let c0_i32_50 : BitVec 32 := 0#32
  let c125_i32_51 : BitVec 32 := 125#32
  let v71 : BitVec 32 := Scalar.addi c0_i32_50 c125_i32_51
  let c1_i32_52 : BitVec 32 := 1#32
  ⟨c0_i32_50, v71, c1_i32_52⟩

def k0_chk129 (v79 : IVec S16 32) : Prop :=
  (∀ a x, ((![v79] : Fin 1 → IVec S16 32) a x).toNat < S50000.size a)
theorem k0_idx133_inb : ∀ (v79 : IVec S16 32) (k0_hw129 : k0_chk129 v79), ∀ a x, ((![v79] : Fin 1 → IVec S16 32) a x).toNat < S50000.size a := fun v79 k0_hw129 => k0_hw129

def k0_chk130 (v82 : IVec S16 32) : Prop :=
  (∀ a x, ((![v82] : Fin 1 → IVec S16 32) a x).toNat < S50000.size a)
theorem k0_idx134_inb : ∀ (v82 : IVec S16 32) (k0_hw130 : k0_chk130 v82), ∀ a x, ((![v82] : Fin 1 → IVec S16 32) a x).toNat < S50000.size a := fun v82 k0_hw130 => k0_hw130

def k0_chk131 (v85 : IVec S16 32) : Prop :=
  (∀ a x, ((![v85] : Fin 1 → IVec S16 32) a x).toNat < S50000.size a)
theorem k0_idx135_inb : ∀ (v85 : IVec S16 32) (k0_hw131 : k0_chk131 v85), ∀ a x, ((![v85] : Fin 1 → IVec S16 32) a x).toNat < S50000.size a := fun v85 k0_hw131 => k0_hw131

def k0_chk132 (v88 : IVec S16 32) : Prop :=
  (∀ a x, ((![v88] : Fin 1 → IVec S16 32) a x).toNat < S50000.size a)
theorem k0_idx136_inb : ∀ (v88 : IVec S16 32) (k0_hw132 : k0_chk132 v88), ∀ a x, ((![v88] : Fin 1 → IVec S16 32) a x).toNat < S50000.size a := fun v88 k0_hw132 => k0_hw132

def k0_chk133 (v91 : IVec S16 32) : Prop :=
  (∀ a x, ((![v91] : Fin 1 → IVec S16 32) a x).toNat < S50000.size a)
theorem k0_idx137_inb : ∀ (v91 : IVec S16 32) (k0_hw133 : k0_chk133 v91), ∀ a x, ((![v91] : Fin 1 → IVec S16 32) a x).toNat < S50000.size a := fun v91 k0_hw133 => k0_hw133

def k0_chk134 (v96 : IVec S16 32) : Prop :=
  (∀ a x, ((![v96] : Fin 1 → IVec S16 32) a x).toNat < S50000.size a)
theorem k0_idx138_inb : ∀ (v96 : IVec S16 32) (k0_hw134 : k0_chk134 v96), ∀ a x, ((![v96] : Fin 1 → IVec S16 32) a x).toNat < S50000.size a := fun v96 k0_hw134 => k0_hw134

def k0_chk135 (v105 : IVec S16 32) : Prop :=
  (∀ a x, ((![v105] : Fin 1 → IVec S16 32) a x).toNat < S50000.size a)
theorem k0_idx139_inb : ∀ (v105 : IVec S16 32) (k0_hw135 : k0_chk135 v105), ∀ a x, ((![v105] : Fin 1 → IVec S16 32) a x).toNat < S50000.size a := fun v105 k0_hw135 => k0_hw135

def k0_chk136 (v114 : IVec S16 32) : Prop :=
  (∀ a x, ((![v114] : Fin 1 → IVec S16 32) a x).toNat < S50000.size a)
theorem k0_idx140_inb : ∀ (v114 : IVec S16 32) (k0_hw136 : k0_chk136 v114), ∀ a x, ((![v114] : Fin 1 → IVec S16 32) a x).toNat < S50000.size a := fun v114 k0_hw136 => k0_hw136

def k0_chk137 (v123 : IVec S16 32) : Prop :=
  (∀ a x, ((![v123] : Fin 1 → IVec S16 32) a x).toNat < S50000.size a)
theorem k0_idx141_inb : ∀ (v123 : IVec S16 32) (k0_hw137 : k0_chk137 v123), ∀ a x, ((![v123] : Fin 1 → IVec S16 32) a x).toNat < S50000.size a := fun v123 k0_hw137 => k0_hw137

def k0_chk138 (v132 : IVec S16 32) : Prop :=
  (∀ a x, ((![v132] : Fin 1 → IVec S16 32) a x).toNat < S50000.size a)
theorem k0_idx142_inb : ∀ (v132 : IVec S16 32) (k0_hw138 : k0_chk138 v132), ∀ a x, ((![v132] : Fin 1 → IVec S16 32) a x).toNat < S50000.size a := fun v132 k0_hw138 => k0_hw138

def k0_chk139 (v141 : IVec S16 32) : Prop :=
  (∀ a x, ((![v141] : Fin 1 → IVec S16 32) a x).toNat < S50000.size a)
theorem k0_idx143_inb : ∀ (v141 : IVec S16 32) (k0_hw139 : k0_chk139 v141), ∀ a x, ((![v141] : Fin 1 → IVec S16 32) a x).toNat < S50000.size a := fun v141 k0_hw139 => k0_hw139

def k0_chk140 (v150 : IVec S16 32) : Prop :=
  (∀ a x, ((![v150] : Fin 1 → IVec S16 32) a x).toNat < S50000.size a)
theorem k0_idx144_inb : ∀ (v150 : IVec S16 32) (k0_hw140 : k0_chk140 v150), ∀ a x, ((![v150] : Fin 1 → IVec S16 32) a x).toNat < S50000.size a := fun v150 k0_hw140 => k0_hw140

def k0_chk141 (v159 : IVec S16 32) : Prop :=
  (∀ a x, ((![v159] : Fin 1 → IVec S16 32) a x).toNat < S50000.size a)
theorem k0_idx145_inb : ∀ (v159 : IVec S16 32) (k0_hw141 : k0_chk141 v159), ∀ a x, ((![v159] : Fin 1 → IVec S16 32) a x).toNat < S50000.size a := fun v159 k0_hw141 => k0_hw141

def k0_chk142 (v168 : IVec S16 32) : Prop :=
  (∀ a x, ((![v168] : Fin 1 → IVec S16 32) a x).toNat < S50000.size a)
theorem k0_idx146_inb : ∀ (v168 : IVec S16 32) (k0_hw142 : k0_chk142 v168), ∀ a x, ((![v168] : Fin 1 → IVec S16 32) a x).toNat < S50000.size a := fun v168 k0_hw142 => k0_hw142

def k0_chk143 (v177 : IVec S16 32) : Prop :=
  (∀ a x, ((![v177] : Fin 1 → IVec S16 32) a x).toNat < S50000.size a)
theorem k0_idx147_inb : ∀ (v177 : IVec S16 32) (k0_hw143 : k0_chk143 v177), ∀ a x, ((![v177] : Fin 1 → IVec S16 32) a x).toNat < S50000.size a := fun v177 k0_hw143 => k0_hw143

def k0_chk144 (v186 : IVec S16 32) : Prop :=
  (∀ a x, ((![v186] : Fin 1 → IVec S16 32) a x).toNat < S50000.size a)
theorem k0_idx148_inb : ∀ (v186 : IVec S16 32) (k0_hw144 : k0_chk144 v186), ∀ a x, ((![v186] : Fin 1 → IVec S16 32) a x).toNat < S50000.size a := fun v186 k0_hw144 => k0_hw144

def k0_chk145 (v195 : IVec S16 32) : Prop :=
  (∀ a x, ((![v195] : Fin 1 → IVec S16 32) a x).toNat < S50000.size a)
theorem k0_idx149_inb : ∀ (v195 : IVec S16 32) (k0_hw145 : k0_chk145 v195), ∀ a x, ((![v195] : Fin 1 → IVec S16 32) a x).toNat < S50000.size a := fun v195 k0_hw145 => k0_hw145

def k0_chk146 (v204 : IVec S16 32) : Prop :=
  (∀ a x, ((![v204] : Fin 1 → IVec S16 32) a x).toNat < S50000.size a)
theorem k0_idx150_inb : ∀ (v204 : IVec S16 32) (k0_hw146 : k0_chk146 v204), ∀ a x, ((![v204] : Fin 1 → IVec S16 32) a x).toNat < S50000.size a := fun v204 k0_hw146 => k0_hw146

def k0_chk147 (v213 : IVec S16 32) : Prop :=
  (∀ a x, ((![v213] : Fin 1 → IVec S16 32) a x).toNat < S50000.size a)
theorem k0_idx151_inb : ∀ (v213 : IVec S16 32) (k0_hw147 : k0_chk147 v213), ∀ a x, ((![v213] : Fin 1 → IVec S16 32) a x).toNat < S50000.size a := fun v213 k0_hw147 => k0_hw147

def k0_chk148 (v222 : IVec S16 32) : Prop :=
  (∀ a x, ((![v222] : Fin 1 → IVec S16 32) a x).toNat < S50000.size a)
theorem k0_idx152_inb : ∀ (v222 : IVec S16 32) (k0_hw148 : k0_chk148 v222), ∀ a x, ((![v222] : Fin 1 → IVec S16 32) a x).toNat < S50000.size a := fun v222 k0_hw148 => k0_hw148

def k0_chk149 (v231 : IVec S16 32) : Prop :=
  (∀ a x, ((![v231] : Fin 1 → IVec S16 32) a x).toNat < S50000.size a)
theorem k0_idx153_inb : ∀ (v231 : IVec S16 32) (k0_hw149 : k0_chk149 v231), ∀ a x, ((![v231] : Fin 1 → IVec S16 32) a x).toNat < S50000.size a := fun v231 k0_hw149 => k0_hw149

def k0_chk150 (v240 : IVec S16 32) : Prop :=
  (∀ a x, ((![v240] : Fin 1 → IVec S16 32) a x).toNat < S50000.size a)
theorem k0_idx154_inb : ∀ (v240 : IVec S16 32) (k0_hw150 : k0_chk150 v240), ∀ a x, ((![v240] : Fin 1 → IVec S16 32) a x).toNat < S50000.size a := fun v240 k0_hw150 => k0_hw150

def k0_chk151 (v249 : IVec S16 32) : Prop :=
  (∀ a x, ((![v249] : Fin 1 → IVec S16 32) a x).toNat < S50000.size a)
theorem k0_idx155_inb : ∀ (v249 : IVec S16 32) (k0_hw151 : k0_chk151 v249), ∀ a x, ((![v249] : Fin 1 → IVec S16 32) a x).toNat < S50000.size a := fun v249 k0_hw151 => k0_hw151

def k0_chk152 (v258 : IVec S16 32) : Prop :=
  (∀ a x, ((![v258] : Fin 1 → IVec S16 32) a x).toNat < S50000.size a)
theorem k0_idx156_inb : ∀ (v258 : IVec S16 32) (k0_hw152 : k0_chk152 v258), ∀ a x, ((![v258] : Fin 1 → IVec S16 32) a x).toNat < S50000.size a := fun v258 k0_hw152 => k0_hw152

def k0_chk153 (v267 : IVec S16 32) : Prop :=
  (∀ a x, ((![v267] : Fin 1 → IVec S16 32) a x).toNat < S50000.size a)
theorem k0_idx157_inb : ∀ (v267 : IVec S16 32) (k0_hw153 : k0_chk153 v267), ∀ a x, ((![v267] : Fin 1 → IVec S16 32) a x).toNat < S50000.size a := fun v267 k0_hw153 => k0_hw153

def k0_chk155 (v277 : IVec S16 32) : Prop :=
  (∀ a x, ((![v277] : Fin 1 → IVec S16 32) a x).toNat < S8000.size a)
theorem k0_idx159_inb : ∀ (v277 : IVec S16 32) (k0_hw155 : k0_chk155 v277), ∀ a x, ((![v277] : Fin 1 → IVec S16 32) a x).toNat < S8000.size a := fun v277 k0_hw155 => k0_hw155

def k0_chk156 (v280 : IVec S16 32) : Prop :=
  (∀ a x, ((![v280] : Fin 1 → IVec S16 32) a x).toNat < S8000.size a)
theorem k0_idx160_inb : ∀ (v280 : IVec S16 32) (k0_hw156 : k0_chk156 v280), ∀ a x, ((![v280] : Fin 1 → IVec S16 32) a x).toNat < S8000.size a := fun v280 k0_hw156 => k0_hw156

def k0_chk157 (v283 : IVec S16 32) : Prop :=
  (∀ a x, ((![v283] : Fin 1 → IVec S16 32) a x).toNat < S8000.size a)
theorem k0_idx161_inb : ∀ (v283 : IVec S16 32) (k0_hw157 : k0_chk157 v283), ∀ a x, ((![v283] : Fin 1 → IVec S16 32) a x).toNat < S8000.size a := fun v283 k0_hw157 => k0_hw157

def k0_chk154 (v274 : IVec S16 32) : Prop :=
  (∀ a x, ((![v274] : Fin 1 → IVec S16 32) a x).toNat < S8000.size a) ∧
  (∀ a x, ((![v274] : Fin 1 → IVec S16 32) a x).toNat < S8000.size a)
theorem k0_idx158_inb : ∀ (v274 : IVec S16 32) (k0_hw154 : k0_chk154 v274), ∀ a x, ((![v274] : Fin 1 → IVec S16 32) a x).toNat < S8000.size a := fun v274 k0_hw154 => k0_hw154.1
theorem k0_idx162_inb : ∀ (v274 : IVec S16 32) (k0_hw154 : k0_chk154 v274), ∀ a x, ((![v274] : Fin 1 → IVec S16 32) a x).toNat < S8000.size a := fun v274 k0_hw154 => k0_hw154.2

def k0_chk158 (v338 : IVec S16 32) : Prop :=
  (∀ a x, ((![v338] : Fin 1 → IVec S16 32) a x).toNat < S8000.size a)
theorem k0_idx163_inb : ∀ (v338 : IVec S16 32) (k0_hw158 : k0_chk158 v338), ∀ a x, ((![v338] : Fin 1 → IVec S16 32) a x).toNat < S8000.size a := fun v338 k0_hw158 => k0_hw158

def k0_chk159 (v340 : IVec S16 32) : Prop :=
  (∀ a x, ((![v340] : Fin 1 → IVec S16 32) a x).toNat < S8000.size a)
theorem k0_idx164_inb : ∀ (v340 : IVec S16 32) (k0_hw159 : k0_chk159 v340), ∀ a x, ((![v340] : Fin 1 → IVec S16 32) a x).toNat < S8000.size a := fun v340 k0_hw159 => k0_hw159

def k0_chk160 (v342 : IVec S16 32) : Prop :=
  (∀ a x, ((![v342] : Fin 1 → IVec S16 32) a x).toNat < S8000.size a)
theorem k0_idx165_inb : ∀ (v342 : IVec S16 32) (k0_hw160 : k0_chk160 v342), ∀ a x, ((![v342] : Fin 1 → IVec S16 32) a x).toNat < S8000.size a := fun v342 k0_hw160 => k0_hw160
def k0_off9 (k0_t5 : Fin k0_t5_loop.trips) : Fin 1 → Nat :=
  let c0_i32_50 : BitVec 32 := 0#32
  let c1_i32_52 : BitVec 32 := 1#32
  let arg14 : BitVec 32 := Scf.iv c0_i32_50 c1_i32_52 k0_t5
  let c16_i32_125 : BitVec 32 := 16#32
  let v344 : BitVec 32 := Scalar.muli arg14 c16_i32_125
  let v345 : Index := Scalar.indexCast v344
  ![v345.toNat]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_55_r25 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x20000x25 : Shape := ⟨3, ![16, 20000, 25]⟩
abbrev S20000x4 : Shape := ⟨2, ![20000, 4]⟩
abbrev S16x20000x21 : Shape := ⟨3, ![16, 20000, 21]⟩
abbrev S16x20000x4 : Shape := ⟨3, ![16, 20000, 4]⟩
abbrev S20000x1 : Shape := ⟨2, ![20000, 1]⟩
abbrev S20000 : Shape := ⟨1, ![20000]⟩
abbrev S_ : Shape := ⟨0, ![]⟩
abbrev S20000x2 : Shape := ⟨2, ![20000, 2]⟩
abbrev S1x20000x4 : Shape := ⟨3, ![1, 20000, 4]⟩
abbrev S16x20000x2 : Shape := ⟨3, ![16, 20000, 2]⟩
abbrev S1x20000x2 : Shape := ⟨3, ![1, 20000, 2]⟩
abbrev S16x20000 : Shape := ⟨2, ![16, 20000]⟩
abbrev S16x20000x1 : Shape := ⟨3, ![16, 20000, 1]⟩
abbrev S16 : Shape := ⟨1, ![16]⟩

abbrev nBuf : Space → Nat
  | .hbm => 103
  | .vmem => 0
  | .smem => 0
  | _ => 0

abbrev bufTy : (tb : Table) → Fin (tcTables nBuf tb) → BufTy
  | .hbm, ⟨0, _⟩ => ⟨S16x20000x25, .f32⟩
  | .hbm, ⟨1, _⟩ => ⟨S20000x4, .f32⟩
  | .hbm, ⟨2, _⟩ => ⟨S16x20000x21, .f32⟩
  | .hbm, ⟨3, _⟩ => ⟨S16x20000x4, .f32⟩
  | .hbm, ⟨4, _⟩ => ⟨S20000x1, .f32⟩
  | .hbm, ⟨5, _⟩ => ⟨S20000, .f32⟩
  | .hbm, ⟨6, _⟩ => ⟨S20000x1, .f32⟩
  | .hbm, ⟨7, _⟩ => ⟨S20000, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S20000x1, .f32⟩
  | .hbm, ⟨13, _⟩ => ⟨S20000, .f32⟩
  | .hbm, ⟨14, _⟩ => ⟨S20000x1, .f32⟩
  | .hbm, ⟨15, _⟩ => ⟨S20000, .f32⟩
  | .hbm, ⟨16, _⟩ => ⟨S20000, .f32⟩
  | .hbm, ⟨17, _⟩ => ⟨S_, .f32⟩
  | .hbm, ⟨18, _⟩ => ⟨S20000, .f32⟩
  | .hbm, ⟨19, _⟩ => ⟨S20000, .f32⟩
  | .hbm, ⟨20, _⟩ => ⟨S20000x1, .f32⟩
  | .hbm, ⟨21, _⟩ => ⟨S20000, .f32⟩
  | .hbm, ⟨22, _⟩ => ⟨S20000x1, .f32⟩
  | .hbm, ⟨23, _⟩ => ⟨S20000, .f32⟩
  | .hbm, ⟨24, _⟩ => ⟨S20000, .f32⟩
  | .hbm, ⟨25, _⟩ => ⟨S20000x1, .f32⟩
  | .hbm, ⟨26, _⟩ => ⟨S20000, .f32⟩
  | .hbm, ⟨27, _⟩ => ⟨S20000x1, .f32⟩
  | .hbm, ⟨28, _⟩ => ⟨S20000, .f32⟩
  | .hbm, ⟨29, _⟩ => ⟨S20000, .f32⟩
  | .hbm, ⟨30, _⟩ => ⟨S20000x1, .f32⟩
  | .hbm, ⟨31, _⟩ => ⟨S20000x1, .f32⟩
  | .hbm, ⟨32, _⟩ => ⟨S20000x1, .f32⟩
  | .hbm, ⟨33, _⟩ => ⟨S20000x1, .f32⟩
  | .hbm, ⟨34, _⟩ => ⟨S20000x4, .f32⟩
  | .hbm, ⟨35, _⟩ => ⟨S20000x2, .f32⟩
  | .hbm, ⟨36, _⟩ => ⟨S20000x2, .f32⟩
  | .hbm, ⟨37, _⟩ => ⟨S_, .f32⟩
  | .hbm, ⟨38, _⟩ => ⟨S20000x2, .f32⟩
  | .hbm, ⟨39, _⟩ => ⟨S20000x4, .f32⟩
  | .hbm, ⟨40, _⟩ => ⟨S1x20000x4, .f32⟩
  | .hbm, ⟨41, _⟩ => ⟨S16x20000x4, .f32⟩
  | .hbm, ⟨42, _⟩ => ⟨S16x20000x4, .f32⟩
  | .hbm, ⟨43, _⟩ => ⟨S20000x2, .f32⟩
  | .hbm, ⟨44, _⟩ => ⟨S20000x2, .f32⟩
  | .hbm, ⟨45, _⟩ => ⟨S_, .f32⟩
  | .hbm, ⟨46, _⟩ => ⟨S20000x2, .f32⟩
  | .hbm, ⟨47, _⟩ => ⟨S20000x4, .f32⟩
  | .hbm, ⟨48, _⟩ => ⟨S1x20000x4, .f32⟩
  | .hbm, ⟨49, _⟩ => ⟨S16x20000x4, .f32⟩
  | .hbm, ⟨50, _⟩ => ⟨S16x20000x4, .f32⟩
  | .hbm, ⟨51, _⟩ => ⟨S16x20000x2, .f32⟩
  | .hbm, ⟨52, _⟩ => ⟨S16x20000x2, .f32⟩
  | .hbm, ⟨53, _⟩ => ⟨S16x20000x2, .f32⟩
  | .hbm, ⟨54, _⟩ => ⟨S20000x2, .f32⟩
  | .hbm, ⟨55, _⟩ => ⟨S1x20000x2, .f32⟩
  | .hbm, ⟨56, _⟩ => ⟨S16x20000x2, .f32⟩
  | .hbm, ⟨57, _⟩ => ⟨S16x20000x2, .f32⟩
  | .hbm, ⟨58, _⟩ => ⟨S16x20000x4, .f32⟩
  | .hbm, ⟨59, _⟩ => ⟨S16x20000x2, .f32⟩
  | .hbm, ⟨60, _⟩ => ⟨S16x20000x2, .f32⟩
  | .hbm, ⟨61, _⟩ => ⟨S_, .f32⟩
  | .hbm, ⟨62, _⟩ => ⟨S16x20000x2, .f32⟩
  | .hbm, ⟨63, _⟩ => ⟨S16x20000x2, .f32⟩
  | .hbm, ⟨64, _⟩ => ⟨S16x20000x2, .f32⟩
  | .hbm, ⟨65, _⟩ => ⟨S16x20000x2, .f32⟩
  | .hbm, ⟨66, _⟩ => ⟨S16x20000x2, .f32⟩
  | .hbm, ⟨67, _⟩ => ⟨S_, .f32⟩
  | .hbm, ⟨68, _⟩ => ⟨S16x20000x2, .f32⟩
  | .hbm, ⟨69, _⟩ => ⟨S16x20000x2, .f32⟩
  | .hbm, ⟨70, _⟩ => ⟨S16x20000x2, .f32⟩
  | .hbm, ⟨71, _⟩ => ⟨S16x20000x4, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16x20000x4, .f32⟩
  | .hbm, ⟨76, _⟩ => ⟨S16x20000x4, .f32⟩
  | .hbm, ⟨77, _⟩ => ⟨S_, .f32⟩
  | .hbm, ⟨78, _⟩ => ⟨S16x20000x4, .f32⟩
  | .hbm, ⟨79, _⟩ => ⟨S16x20000x4, .f32⟩
  | .hbm, ⟨80, _⟩ => ⟨S_, .f32⟩
  | .hbm, ⟨81, _⟩ => ⟨S16x20000, .f32⟩
  | .hbm, ⟨82, _⟩ => ⟨S16x20000x21, .i32⟩
  | .hbm, ⟨83, _⟩ => ⟨S_, .f32⟩
  | .hbm, ⟨84, _⟩ => ⟨S_, .i32⟩
  | .hbm, ⟨85, _⟩ => ⟨S16x20000, .f32⟩
  | .hbm, ⟨86, _⟩ => ⟨S16x20000, .i32⟩
  | .hbm, ⟨87, _⟩ => ⟨S_, .i32⟩
  | .hbm, ⟨88, _⟩ => ⟨S16x20000, .i32⟩
  | .hbm, ⟨89, _⟩ => ⟨S16x20000, .i1⟩
  | .hbm, ⟨90, _⟩ => ⟨S16x20000x1, .i1⟩
  | .hbm, ⟨91, _⟩ => ⟨S16x20000x1, .f32⟩
  | .hbm, ⟨92, _⟩ => ⟨S16x20000x4, .f32⟩
  | .hbm, ⟨93, _⟩ => ⟨S16x20000x4, .f32⟩
  | .hbm, ⟨94, _⟩ => ⟨S16x20000, .f32⟩
  | .hbm, ⟨95, _⟩ => ⟨S16x20000, .f32⟩
  | .hbm, ⟨96, _⟩ => ⟨S_, .i32⟩
  | .hbm, ⟨97, _⟩ => ⟨S_, .i32⟩
  | .hbm, ⟨98, _⟩ => ⟨S16x20000, .i32⟩
  | .hbm, ⟨99, _⟩ => ⟨S16x20000, .i32⟩
  | .hbm, ⟨100, _⟩ => ⟨S16x20000, .i32⟩
  | .hbm, ⟨101, _⟩ => ⟨S_, .i32⟩
  | .hbm, ⟨102, _⟩ => ⟨S16, .i32⟩
  | _, _ => ⟨S16x20000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_3 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_5 : Ref sig .tc := ⟨.hbm, 72, rfl⟩
abbrev main_cst_6 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v64 : Ref sig .tc := ⟨.hbm, 79, rfl⟩
abbrev main_cst_7 : Ref sig .tc := ⟨.hbm, 80, rfl⟩
abbrev main_v65 : Ref sig .tc := ⟨.hbm, 81, rfl⟩
abbrev main_call1_v0 : Ref sig .tc := ⟨.hbm, 82, rfl⟩
abbrev main_call1_cst : Ref sig .tc := ⟨.hbm, 83, rfl⟩
abbrev main_call1_c : Ref sig .tc := ⟨.hbm, 84, rfl⟩
abbrev main_call1_v1_0 : Ref sig .tc := ⟨.hbm, 85, rfl⟩
abbrev main_v66 : Ref sig .tc := ⟨.hbm, 86, rfl⟩
abbrev main_c : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_8 : Ref sig .tc := ⟨.hbm, 96, rfl⟩
abbrev main_call2_v0 : Ref sig .tc := ⟨.hbm, 97, rfl⟩
abbrev main_call2_v1 : Ref sig .tc := ⟨.hbm, 98, rfl⟩
abbrev main_v75 : Ref sig .tc := ⟨.hbm, 99, rfl⟩
abbrev main_v76 : Ref sig .tc := ⟨.hbm, 100, rfl⟩
abbrev main_c_9 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Proof.Row.lean ====
/-
  What one row of the decoding is, in plain words: from a row's twenty-five logits (four of location, twenty-one of
  class) and its default box's four corners, the running best class, the mask, the score and the four corners of the
  decoded box; and the flat arrays read by position. Nothing here mentions a program.
-/
module

public import Idealize.ShloMosaic.PureOps.Vector
public import Idealize.ShloMosaic.PureOps.ShapeOps

@[expose] public section

noncomputable section

namespace Cert.Proof.Row

open Idealize.ShloMosaic

variable {α : Type}

/-- Position `k` (wrapped into range) of a rank-one shape. -/
def pos (n : Nat) [NeZero n] (k : Nat) : (⟨1, ![n]⟩ : Shape).Idx :=
  fun a => match a with | ⟨0, _⟩ => (⟨k % n, Nat.mod_lt _ (Nat.pos_of_ne_zero (NeZero.ne n))⟩ : Fin n)

/-- A flat array read at a position. -/
def at1 {n : Nat} [NeZero n] (f : (⟨1, ![n]⟩ : Shape).Idx → α) (k : Nat) : α := f (pos n k)

theorem pos_val {n : Nat} [NeZero n] {k : Nat} (h : k < n) (a : Fin 1) : (pos n k a).val = k := by
  match a with | ⟨0, _⟩ => exact Nat.mod_eq_of_lt h

theorem eq_pos {n : Nat} [NeZero n] (i : (⟨1, ![n]⟩ : Shape).Idx) : i = pos n (i 0).val := by
  funext a; match a with | ⟨0, _⟩ => exact Fin.ext (Nat.mod_eq_of_lt (i 0).isLt).symm

theorem eq_pos_of {n : Nat} [NeZero n] (i : (⟨1, ![n]⟩ : Shape).Idx) {k : Nat} (h : (i 0).val = k) : i = pos n k := h ▸ eq_pos i

theorem at1_idx {n : Nat} [NeZero n] (f : (⟨1, ![n]⟩ : Shape).Idx → α) (i : (⟨1, ![n]⟩ : Shape).Idx) : f i = at1 f (i 0).val :=
  congrArg f (eq_pos i)

theorem ext_at1 {n : Nat} [NeZero n] {f g : (⟨1, ![n]⟩ : Shape).Idx → α} (h : ∀ k, k < n → at1 f k = at1 g k) : f = g := by
  funext i; rw [at1_idx f, at1_idx g]; exact h _ (i 0).isLt

variable {F : FTy → Type} [FloatOps F]

/-- The running best after classes `0 … c`: its logit and its number. A later class takes over only if strictly larger. -/
def best (x : Nat → F .f32) : Nat → F .f32 × BitVec 32
  | 0 => (x 4, 0#32)
  | c + 1 =>
    (Scalar.select (FloatOps.cmpf .ogt (x (c + 5)) (best x c).1) (x (c + 5)) (best x c).1,
     Scalar.select (FloatOps.cmpf .ogt (x (c + 5)) (best x c).1) (BitVec.ofNat 32 (c + 1)) (best x c).2)

/-- The row's class, its mask bit (set unless the class is the background's), and the mask as a word and as a float. -/
def cls (x : Nat → F .f32) : BitVec 32 := (best x 20).2
def mbit (x : Nat → F .f32) : BitVec 1 := IntOp.cmpi .ne (cls x) 0#32
def mword (x : Nat → F .f32) : BitVec 32 := (mbit x).setWidth 32
def mflt (x : Nat → F .f32) : F .f32 := FloatOps.sitofp .f32 (mword x)

def score (x : Nat → F .f32) : F .f32 := FloatOps.mulf (best x 20).1 (mflt x)

def half : F .f32 := Scalar.ofBits .f32 0x3F000000#32
def zero : F .f32 := Scalar.ofBits .f32 0x00000000#32
def one : F .f32 := Scalar.ofBits .f32 0x3F800000#32

/-- Along one axis (`l` the location logit, `e` the size logit, `lo` and `hi` the default box's two corners): the decoded
    centre and half the decoded extent. -/
def centre (l lo hi : F .f32) : F .f32 :=
  FloatOps.addf (FloatOps.mulf l (FloatOps.subf hi lo)) (FloatOps.mulf (FloatOps.addf hi lo) half)
def reach (e lo hi : F .f32) : F .f32 := FloatOps.mulf (FloatOps.mulf (FloatOps.exp e) (FloatOps.subf hi lo)) half
def clip (v : F .f32) : F .f32 := FloatOps.minimumf one (FloatOps.maximumf zero v)

/-- Corner `j` of the row's decoded box, masked. -/
def corner (x b : Nat → F .f32) : Nat → F .f32
  | 0 => FloatOps.mulf (clip (FloatOps.subf (centre (x 0) (b 0) (b 2)) (reach (x 2) (b 0) (b 2)))) (mflt x)
  | 1 => FloatOps.mulf (clip (FloatOps.subf (centre (x 1) (b 1) (b 3)) (reach (x 3) (b 1) (b 3)))) (mflt x)
  | 2 => FloatOps.mulf (clip (FloatOps.addf (centre (x 0) (b 0) (b 2)) (reach (x 2) (b 0) (b 2)))) (mflt x)
  | _ => FloatOps.mulf (clip (FloatOps.addf (centre (x 1) (b 1) (b 3)) (reach (x 3) (b 1) (b 3)))) (mflt x)

/-- Row `r` of a flat table of rows of `w` elements. -/
def rowOf {n : Nat} [NeZero n] (w : Nat) (f : (⟨1, ![n]⟩ : Shape).Idx → α) (r : Nat) : Nat → α := fun k => at1 f (w * r + k)

/-! ## Sixteen rows at a time -/

/-- The shape of sixteen lanes. -/
abbrev Ln : Shape := ⟨1, ![16]⟩

/-- Column `k` of sixteen rows. -/
def colV (X : Ln.Idx → Nat → α) (k : Nat) : Ln.Idx → α := fun l => X l k

/-- The running best of each of sixteen rows. -/
def bestV (X : Ln.Idx → Nat → F .f32) (c : Nat) : FVec F Ln .f32 := fun l => (best (X l) c).1
def clsV (X : Ln.Idx → Nat → F .f32) (c : Nat) : IVec Ln 32 := fun l => (best (X l) c).2

/-! ## Index vectors -/

/-- An index vector that names, on each lane, the position `w` times the row plus `k`. -/
def Names (v : IVec Ln 32) (R : Ln.Idx → Nat) (w k : Nat) : Prop := ∀ l, (v l).toNat = w * R l + k

theorem Names.add {v : IVec Ln 32} {R : Ln.Idx → Nat} {w k : Nat} (h : Names v R w k) (hR : ∀ l, R l < 2000) (hw : w ≤ 25)
    {a : Nat} (ha : k + a < 100) : Names (addi v (broadcast Ln (BitVec.ofNat 32 a))) R w (k + a) := by
  intro l
  show (v l + BitVec.ofNat 32 a).toNat = _
  have h1 := h l
  have h2 := hR l
  have h3 : w * R l ≤ 25 * R l := Nat.mul_le_mul_right _ hw
  rw [BitVec.toNat_add, BitVec.toNat_ofNat]
  omega

theorem Names.inb {v : IVec Ln 32} {R : Ln.Idx → Nat} {w k n : Nat} (h : Names v R w k) (hR : ∀ l, R l < 2000)
    (hn : n = w * 2000) (hk : k < w) : ∀ (a : Fin 1) x, ((![v] : Fin 1 → IVec Ln 32) a x).toNat < (⟨1, ![n]⟩ : Shape).size a := by
  intro a x
  match a with
  | ⟨0, _⟩ =>
    show (v x).toNat < n
    have h2 := hR x
    rw [h x, hn]
    have : w * (R x + 1) ≤ w * 2000 := Nat.mul_le_mul_left _ h2
    rw [Nat.mul_succ] at this
    omega

/-- A gather at such an index vector is the rows' column. -/
theorem loadIdx_names {n : Nat} [NeZero n] {e : EltTy} (f : Vec F ⟨1, ![n]⟩ e) {v : IVec Ln 32} {R : Ln.Idx → Nat} {w k : Nat}
    (hv : Names v R w k) (h : ∀ (a : Fin 1) x, ((![v] : Fin 1 → IVec Ln 32) a x).toNat < (⟨1, ![n]⟩ : Shape).size a) :
    loadIdx f (![v] : Fin 1 → IVec Ln 32) h = colV (fun l => rowOf w f (R l)) k := by
  funext l
  show f _ = f (pos n (w * R l + k))
  exact congrArg f (eq_pos_of _ (hv l))

end Cert.Proof.Row

end
-- ==== Proof.Fill.lean ====
/-
  The three result buffers of a block of rows, filled sixteen rows at a time: what each holds once the first `m` rows are
  written, and that a trip's stores take it from `16 t` rows to `16 (t + 1)`.
-/
module

public import proofs.«01_k».proof.Proof.Row

@[expose] public section

noncomputable section

namespace Cert.Proof.Row

open Idealize.ShloMosaic

variable {α : Type} {F : FTy → Type} [FloatOps F]

/-! ## A scatter, lane by lane -/

theorem fold_miss {β ι : Type} (P : β → ι → Prop) [∀ k j, Decidable (P k j)] (y : β → α) (l : List β) (f : ι → α) (j : ι)
    (h : ∀ k ∈ l, ¬ P k j) : l.foldl (fun g k j => if P k j then y k else g j) f j = f j := by
  induction l generalizing f with
  | nil => rfl
  | cons a l ih =>
    rw [List.foldl_cons, ih _ fun k hk => h k (List.mem_cons_of_mem _ hk)]
    exact if_neg (h a List.mem_cons_self)

theorem fold_hit {β ι : Type} (P : β → ι → Prop) [∀ k j, Decidable (P k j)] (y : β → α) (l : List β) (f : ι → α) (j : ι) (k : β)
    (hk : k ∈ l) (hP : P k j) (hu : ∀ k' ∈ l, P k' j → y k' = y k) : l.foldl (fun g k j => if P k j then y k else g j) f j = y k := by
  classical
  induction l generalizing f with
  | nil => cases hk
  | cons a l ih =>
    rw [List.foldl_cons]
    by_cases h : ∃ k' ∈ l, P k' j
    · obtain ⟨k', hk', hP'⟩ := h
      have e := hu k' (List.mem_cons_of_mem _ hk') hP'
      by_cases hkl : k ∈ l
      · exact ih _ hkl fun k'' h'' => hu k'' (List.mem_cons_of_mem _ h'')
      · rw [← e]
        clear ih
        have : ∀ (l : List β) (f : ι → α), (∃ k' ∈ l, P k' j) → (∀ k'' ∈ l, P k'' j → y k'' = y k) →
            l.foldl (fun g k j => if P k j then y k else g j) f j = y k := by
          intro l
          induction l with
          | nil => intro f ⟨_, h, _⟩; cases h
          | cons b l ih =>
            intro f hex hu
            rw [List.foldl_cons]
            by_cases h : ∃ k' ∈ l, P k' j
            · exact ih _ h fun k'' h'' => hu k'' (List.mem_cons_of_mem _ h'')
            · rw [fold_miss P y l _ j fun k' h' hp => h ⟨k', h', hp⟩]
              obtain ⟨c, hc, hPc⟩ := hex
              rcases List.mem_cons.mp hc with rfl | hc
              · exact (if_pos hPc).trans (hu c List.mem_cons_self hPc)
              · exact absurd ⟨c, hc, hPc⟩ h
        rw [this l _ ⟨k', hk', hP'⟩ fun k'' h'' => hu k'' (List.mem_cons_of_mem _ h''), e]
    · rw [fold_miss P y l _ j fun k' h' hp => h ⟨k', h', hp⟩]
      rcases List.mem_cons.mp hk with rfl | hk
      · exact if_pos hP
      · exact absurd ⟨k, hk, hP⟩ h

section Scatter
variable {n : Nat} [NeZero n] {e : EltTy} (f : Vec F ⟨1, ![n]⟩ e) {v : IVec Ln 32} {R : Ln.Idx → Nat} {w k : Nat}
  (hv : Names v R w k) (u : Vec F Ln e) (h : ∀ (a : Fin 1) x, ((![v] : Fin 1 → IVec Ln 32) a x).toNat < (⟨1, ![n]⟩ : Shape).size a)
include hv

include h in
omit [FloatOps F] in
theorem names_lt (l : Ln.Idx) : w * R l + k < n := by
  rw [← hv l]; exact h 0 l

/-- A position no lane names keeps its element; -/
theorem scatter_miss {p : Nat} (hp : p < n) (hm : ∀ l, w * R l + k ≠ p) :
    at1 (storeIdx f ![v] u (fun _ => 1#1) false h) p = at1 f p := by
  refine fold_miss (fun (q : Fin 16) (j : (⟨1, ![n]⟩ : Shape).Idx) => ∀ a, (j a).val = (idxAt ![v] h (Shape.ofLane q) a).val)
    (fun q => u (Shape.ofLane q)) _ f (pos n p) fun q _ hq => ?_
  have h0 := hq 0
  rw [pos_val hp] at h0
  exact hm (Shape.ofLane q) ((hv _).symm.trans h0.symm)

/-- a position a lane names takes that lane's element, lanes naming different rows. -/
theorem scatter_hit (hR : ∀ l l', R l = R l' → l = l') (hw : k < w) (l : Ln.Idx) :
    at1 (storeIdx f ![v] u (fun _ => 1#1) false h) (w * R l + k) = u l := by
  have hlt := names_lt hv h l
  have hl : Shape.ofLane (l 0) = l := by funext a; match a with | ⟨0, _⟩ => rfl
  have := fold_hit (fun (q : Fin 16) (j : (⟨1, ![n]⟩ : Shape).Idx) => ∀ a, (j a).val = (idxAt ![v] h (Shape.ofLane q) a).val)
    (fun q => u (Shape.ofLane q)) (List.finRange 16) f (pos n (w * R l + k)) (l 0) (List.mem_finRange _) ?_ ?_
  · refine Eq.trans this ?_
    exact congrArg u hl
  · intro a
    rw [pos_val hlt]
    match a with
    | ⟨0, _⟩ =>
      show _ = (v (Shape.ofLane (l 0))).toNat
      rw [hl]; exact (hv l).symm
  · intro q _ hq
    have h0 := hq 0
    rw [pos_val hlt] at h0
    have h1 : w * R l + k = w * R (Shape.ofLane q) + k := h0.trans (hv _)
    have h2 : w * R l = w * R (Shape.ofLane q) := Nat.add_right_cancel h1
    have h3 := Nat.eq_of_mul_eq_mul_left (by omega) h2
    have h4 := hR _ _ h3
    exact congrArg u (h4.symm.trans hl.symm)

end Scatter

/-! ## The buffers row by row -/

/-- Block row `r` written, in the boxes, the scores and the classes, for every row below `m`. -/
def BoxesTo (lb : Vec F ⟨1, ![50000]⟩ .f32) (db bx : Vec F ⟨1, ![8000]⟩ .f32) (m : Nat) : Prop :=
  ∀ r, r < m → ∀ j, j < 4 → at1 bx (4 * r + j) = corner (rowOf 25 lb r) (rowOf 4 db r) j
def ScoresTo (lb : Vec F ⟨1, ![50000]⟩ .f32) (sc : Vec F ⟨1, ![2000]⟩ .f32) (m : Nat) : Prop :=
  ∀ r, r < m → at1 sc r = score (rowOf 25 lb r)
def ClassesTo (lb : Vec F ⟨1, ![50000]⟩ .f32) (cl : Vec F ⟨1, ![2000]⟩ .i32) (m : Nat) : Prop :=
  ∀ r, r < m → at1 cl r = cls (rowOf 25 lb r)

/-- A lane's count of unmasked rows after `t` trips, from `a`. -/
def tally (lb : Vec F ⟨1, ![50000]⟩ .f32) (l : Nat) (a : BitVec 32) : Nat → BitVec 32
  | 0 => a
  | t + 1 => tally lb l a t + mword (rowOf 25 lb (16 * t + l))

section Step
variable {lb : Vec F ⟨1, ![50000]⟩ .f32} {db bx : Vec F ⟨1, ![8000]⟩ .f32} {t : Nat} (ht : t < 125)

/-- The rows of trip `t`. -/
abbrev rowsOf (t : Nat) : Ln.Idx → Nat := fun l => 16 * t + (l 0).val

theorem rowsOf_inj (l l' : Ln.Idx) (h : rowsOf t l = rowsOf t l') : l = l' := by
  funext a; match a with | ⟨0, _⟩ => exact Fin.ext (Nat.add_left_cancel h)

/-- The lane of row `r` of trip `t`. -/
theorem lane_of {r : Nat} (h1 : 16 * t ≤ r) (h2 : r < 16 * (t + 1)) : ∃ l : Ln.Idx, rowsOf t l = r := by
  refine ⟨pos 16 (r - 16 * t), ?_⟩
  show 16 * t + (pos 16 (r - 16 * t) 0).val = r
  rw [pos_val (by omega)]
  omega

/-- One column of boxes scattered: columns `< j` of the trip's rows stay, column `j` is written, earlier rows stay. -/
def ColsTo (lb : Vec F ⟨1, ![50000]⟩ .f32) (db bx : Vec F ⟨1, ![8000]⟩ .f32) (t c : Nat) : Prop :=
  BoxesTo lb db bx (16 * t) ∧ ∀ r, r < 16 * (t + 1) → ∀ j, j < c → at1 bx (4 * r + j) = corner (rowOf 25 lb r) (rowOf 4 db r) j

include ht in
theorem ColsTo.step {c : Nat} (H : ColsTo lb db bx t c) (hc : c < 4) {v : IVec Ln 32} (hv : Names v (rowsOf t) 4 c) {u : Vec F Ln .f32}
    (hu : u = fun l => corner (rowOf 25 lb (rowsOf t l)) (rowOf 4 db (rowsOf t l)) c)
    (h : ∀ (a : Fin 1) x, ((![v] : Fin 1 → IVec Ln 32) a x).toNat < (⟨1, ![8000]⟩ : Shape).size a) :
    ColsTo lb db (storeIdx bx ![v] u (fun _ => 1#1) false h) t (c + 1) := by
  subst hu
  constructor
  · intro r hr j hj
    rw [scatter_miss bx hv _ h (by omega) (fun l => by have := (l 0).isLt; show 4 * (16 * t + (l 0).val) + c ≠ _; omega)]
    exact H.1 r hr j hj
  · intro r hr j hj
    by_cases hjc : j = c
    · subst hjc
      by_cases hlo : r < 16 * t
      · rw [scatter_miss bx hv _ h (by omega) (fun l => by show 4 * (16 * t + (l 0).val) + j ≠ _; omega)]
        exact H.1 r hlo j hc
      · obtain ⟨l, rfl⟩ := lane_of (Nat.le_of_not_lt hlo) hr
        exact scatter_hit bx hv _ h rowsOf_inj hc l
    · rw [scatter_miss bx hv _ h (by omega) (fun l => by show 4 * (16 * t + (l 0).val) + c ≠ _; omega)]
      exact H.2 r hr j (by omega)

theorem ColsTo.start (H : BoxesTo lb db bx (16 * t)) : ColsTo lb db bx t 0 := ⟨H, fun _ _ _ h => absurd h (Nat.not_lt_zero _)⟩
theorem ColsTo.done (H : ColsTo lb db bx t 4) : BoxesTo lb db bx (16 * (t + 1)) := H.2

end Step

end Cert.Proof.Row

end
-- ==== Proof.Spec.lean ====
/-
  The whole arrays the decoding leaves, as functions of the flat logits and the flat default boxes; and how a chunk of
  2000 rows, decoded from its own copies of its rows, gives its part of them.
-/
module

public import proofs.«01_k».proof.Proof.Fill

@[expose] public section

noncomputable section

namespace Cert.Proof.Row

open Idealize.ShloMosaic

variable {F : FTy → Type} [FloatOps F]

/-! ## A row's results depend on its own 25 logits and 4 corners -/

theorem best_congr {x y : Nat → F .f32} (c : Nat) (h : ∀ k, k < c + 5 → x k = y k) : best x c = best y c := by
  induction c with
  | zero => exact congrArg (·, 0#32) (h 4 (by omega))
  | succ c ih =>
    unfold best
    rw [ih fun k hk => h k (by omega), h (c + 5) (by omega)]

section Congr
variable {x y : Nat → F .f32} (h : ∀ k, k < 25 → x k = y k)
include h

theorem cls_congr : cls x = cls y := congrArg Prod.snd (best_congr 20 h)
theorem mword_congr : mword x = mword y := by unfold mword mbit; rw [cls_congr h]
theorem mflt_congr : mflt x = mflt y := by unfold mflt; rw [mword_congr h]
theorem score_congr : score x = score y := by unfold score; rw [mflt_congr h, best_congr 20 h]
theorem corner_congr {a b : Nat → F .f32} (hb : ∀ k, k < 4 → a k = b k) (j : Nat) : corner x a j = corner y b j := by
  unfold corner
  rw [mflt_congr h, h 0 (by omega), h 1 (by omega), h 2 (by omega), h 3 (by omega), hb 0 (by omega), hb 1 (by omega), hb 2 (by omega),
    hb 3 (by omega)]
end Congr

/-! ## The whole arrays -/

variable (X : Vec F ⟨1, ![8000000]⟩ .f32) (Y : Vec F ⟨1, ![80000]⟩ .f32)

/-- Row `n`'s logits and its default box's corners: the boxes repeat every 20000 rows. -/
def lgRow (n : Nat) : Nat → F .f32 := rowOf 25 X n
def anRow (n : Nat) : Nat → F .f32 := rowOf 4 Y (n % 20000)

def boxA : Vec F ⟨1, ![1280000]⟩ .f32 := fun i => corner (lgRow X ((i 0).val / 4)) (anRow Y ((i 0).val / 4)) ((i 0).val % 4)
def scoreA : Vec F ⟨1, ![320000]⟩ .f32 := fun i => score (lgRow X (i 0).val)
def classA : Vec F ⟨1, ![320000]⟩ .i32 := fun i => cls (lgRow X (i 0).val)

/-- From `a`, the number of unmasked rows among rows `b + l`, `b + 16 + l`, … (`t` of them). -/
def count (b l : Nat) (a : BitVec 32) : Nat → BitVec 32
  | 0 => a
  | t + 1 => count b l a t + mword (lgRow X (b + 16 * t + l))
def countA : Vec F ⟨2, ![32, 16]⟩ .i32 := fun i => count X (10000 * (i 0).val) (i 1).val 0#32 625

theorem count_add (b l : Nat) (a : BitVec 32) (s t : Nat) : count X b l a (s + t) = count X (b + 16 * s) l (count X b l a s) t := by
  induction t with
  | zero => rfl
  | succ t ih =>
    show count X b l a (s + t) + mword (lgRow X (b + 16 * (s + t) + l)) = count X (b + 16 * s) l (count X b l a s) t + mword (lgRow X (b + 16 * s + 16 * t + l))
    rw [ih, show b + 16 * (s + t) + l = b + 16 * s + 16 * t + l by omega]

/-! ## A chunk -/

section Chunk
variable {X Y} {lb : Vec F ⟨1, ![50000]⟩ .f32} {db bx : Vec F ⟨1, ![8000]⟩ .f32} {sc : Vec F ⟨1, ![2000]⟩ .f32} {cl : Vec F ⟨1, ![2000]⟩ .i32} {b : Nat}

section
variable (hX : ∀ k, k < 50000 → at1 lb k = at1 X (25 * b + k))
include hX

theorem lb_row {i : Nat} (hi : i < 2000) : ∀ k, k < 25 → rowOf 25 lb i k = lgRow X (b + i) k := by
  intro k hk
  show at1 lb (25 * i + k) = at1 X (25 * (b + i) + k)
  rw [hX _ (by omega), show 25 * b + (25 * i + k) = 25 * (b + i) + k by omega]

theorem tally_eq {l : Nat} (hl : l < 16) (a : BitVec 32) {t : Nat} (ht : t ≤ 125) : tally lb l a t = count X b l a t := by
  induction t with
  | zero => rfl
  | succ t ih =>
    show tally lb l a t + mword (rowOf 25 lb (16 * t + l)) = count X b l a t + mword (lgRow X (b + 16 * t + l))
    rw [ih (by omega), mword_congr (lb_row hX (show 16 * t + l < 2000 by omega)), show b + (16 * t + l) = b + 16 * t + l by omega]

theorem scores_part (H : ScoresTo lb sc 2000) {i : Nat} (hi : i < 2000) : at1 sc i = score (lgRow X (b + i)) :=
  (H i hi).trans (score_congr (lb_row hX hi))

theorem classes_part (H : ClassesTo lb cl 2000) {i : Nat} (hi : i < 2000) : at1 cl i = cls (lgRow X (b + i)) :=
  (H i hi).trans (cls_congr (lb_row hX hi))

theorem boxes_part (hY : ∀ k, k < 8000 → at1 db k = at1 Y (4 * (b % 20000) + k)) (hb : b % 20000 + 2000 ≤ 20000)
    (H : BoxesTo lb db bx 2000) {k : Nat} (hk : k < 8000) :
    at1 bx k = corner (lgRow X ((4 * b + k) / 4)) (anRow Y ((4 * b + k) / 4)) ((4 * b + k) % 4) := by
  rw [show k = 4 * (k / 4) + k % 4 by omega, H (k / 4) (by omega) (k % 4) (by omega),
    show (4 * b + (4 * (k / 4) + k % 4)) / 4 = b + k / 4 by omega, show (4 * b + (4 * (k / 4) + k % 4)) % 4 = k % 4 by omega]
  refine corner_congr (lb_row hX (by omega)) (fun j hj => ?_) _
  show at1 db (4 * (k / 4) + j) = at1 Y (4 * ((b + k / 4) % 20000) + j)
  rw [hY _ (by omega)]
  congr 1
  omega
end

end Chunk

end Cert.Proof.Row

end
-- ==== Proof.IBase.lean ====
/-
  The launch's vocabulary for the decoding kernel: the program as the launch theorem sees it, the resource algebra, the
  memrefs and the windows of the body at the launch's own memrefs.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Fill

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The task at coordinates `L`: its thread and its scratch -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.KernelIdeal

end
-- ==== Proof.ITrip.lean ====
/-
  One trip of the row loop: sixteen rows decoded. Each window of the trip's body is run once, the values it returns named by
  the rows' columns and running bests (`Row`); then the trip whole.
-/
module

public import proofs.«01_k».proof.Proof.IBase

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ UU ℕ
local notation "a2" => (Memref.whole main_v0_scv)
local notation "a3" => (Memref.whole main_v1_scv)
local notation "a4" => (Memref.whole main_v2_0_scv)
local notation "a5" => (Memref.whole main_v2_1_scv)
local notation "a6" => (Memref.whole main_v2_2_scv)
local notation "a7" => (Memref.whole main_v2_3_scv)
local notation "a8" => (Memref.whole cc0_scratch0)
local notation "a9" => (Memref.whole cc0_scratch1)
local notation "a10" => (Memref.whole cc0_scratch2)
local notation "a11" => (Memref.whole cc0_scratch3)
local notation "a12" => (Memref.whole cc0_scratch4)
local notation "a13" => (Memref.whole cc0_scratch5)

section Steps

variable (d : Dev nD) (L : grid0.Coords)

/-- The scratch buffers at given contents. -/
abbrev lbPts (f : Vec F S50000 .f32) : sProp 𝕄 := (a8).view.loc (thr d L) ↦{fullShare} f
abbrev dbPts (f : Vec F S8000 .f32) : sProp 𝕄 := (a9).view.loc (thr d L) ↦{fullShare} f
abbrev bxPts (f : Vec F S8000 .f32) : sProp 𝕄 := (a10).view.loc (thr d L) ↦{fullShare} f
abbrev scPts (f : Vec F S2000 .f32) : sProp 𝕄 := (a11).view.loc (thr d L) ↦{fullShare} f
abbrev clPts (f : Vec F S2000 .i32) : sProp 𝕄 := (a12).view.loc (thr d L) ↦{fullShare} f

abbrev PG (F : FTy → Type) (L : grid0.Coords) (α : Type) : Type _ :=
  Prog (TpuEff nD τ sig (Elt F) Λ₀ (.scVector ((L 0).castLE hcore0) ((L 1).castLE hsub0))) α
abbrev WP {α : Type} (p : PG F L α) (Q : α → sProp 𝕄) : sProp 𝕄 :=
  wp frame (wpE (defs₀ (F := F)) 𝒱₀ (thr d L) none) Set.univ p Q

variable {α : Type}

/-- A gather of the logits' scratch by an index vector naming a column. -/
theorem gather_lb {Q : α → sProp 𝕄} {f : Vec F S50000 .f32} {v : IVec S16 32} {R : S16.Idx → Nat} {k : Nat} (hv : Names v R 25 k)
    {hi : ∀ (a : Fin 1) x, ((![v] : Fin 1 → IVec S16 32) a x).toNat < S50000.size a} {hl : (a8).view.Loads}
    {C : Vec F S16 .f32 → PG F L α} :
    lbPts d L f ⊢ iprop((lbPts d L f -∗ WP d L (C (colV (fun l => rowOf 25 f (R l)) k)) Q)
      -∗ WP d L (SparseCore.vectorLoadIdx a8 ![v] hi hl >>= C) Q) := by
  iintro H Hk
  iapply (SparseCore.wp_vectorLoadIdx 𝒱₀ (thr d L) none Set.univ (base := a8) (S := Finset.univ) (q := fullShare) (Finset.subset_univ _)) $$ H
  iintro H
  have e : loadIdx (((a8).access (Rect.whole cc0_scratch0.ty.shape)).read (Elt F) f) ![v] hi = colV (fun l => rowOf 25 f (R l)) k := by
    rw [Memref.read_access_whole]; exact loadIdx_names f hv hi
  rw [e]
  iapply Hk; iexact H

/-- The same, the check of its indices passed first. -/
theorem load_lb {Q : α → sProp 𝕄} {f : Vec F S50000 .f32} {v : IVec S16 32} {R : S16.Idx → Nat} {k : Nat} (hv : Names v R 25 k) {P : Prop} {dP : Decidable P} (hP : P)
    {hi : PLift P → ∀ (a : Fin 1) x, ((![v] : Fin 1 → IVec S16 32) a x).toNat < S50000.size a} {hl : (a8).view.Loads}
    {C : PLift P → Vec F S16 .f32 → PG F L α} :
    lbPts d L f ⊢ iprop((lbPts d L f -∗ WP d L (C ⟨hP⟩ (colV (fun l => rowOf 25 f (R l)) k)) Q)
      -∗ WP d L (Prog.lift (TpuEff.assume P dP) >>= fun h => SparseCore.vectorLoadIdx a8 ![v] (hi h) hl >>= C h) Q) := by
  have e : WP d L (Prog.lift (TpuEff.assume P dP) >>= fun h => SparseCore.vectorLoadIdx a8 ![v] (hi h) hl >>= C h) Q
      = WP d L (SparseCore.vectorLoadIdx a8 ![v] (hi ⟨hP⟩) hl >>= C ⟨hP⟩) Q := wp_assume_of 𝒱₀ (thr d L) none Set.univ hP
  rw [e]
  exact gather_lb d L hv

/-- A gather of the default boxes' scratch by an index vector naming a column. -/
theorem load_db {Q : α → sProp 𝕄} {f : Vec F S8000 .f32} {v : IVec S16 32} {R : S16.Idx → Nat} {k : Nat} (hv : Names v R 4 k) {P : Prop} {dP : Decidable P} (hP : P)
    {hi : PLift P → ∀ (a : Fin 1) x, ((![v] : Fin 1 → IVec S16 32) a x).toNat < S8000.size a} {hl : (a9).view.Loads}
    {C : PLift P → Vec F S16 .f32 → PG F L α} :
    dbPts d L f ⊢ iprop((dbPts d L f -∗ WP d L (C ⟨hP⟩ (colV (fun l => rowOf 4 f (R l)) k)) Q)
      -∗ WP d L (Prog.lift (TpuEff.assume P dP) >>= fun h => SparseCore.vectorLoadIdx a9 ![v] (hi h) hl >>= C h) Q) := by
  have e : WP d L (Prog.lift (TpuEff.assume P dP) >>= fun h => SparseCore.vectorLoadIdx a9 ![v] (hi h) hl >>= C h) Q
      = WP d L (SparseCore.vectorLoadIdx a9 ![v] (hi ⟨hP⟩) hl >>= C ⟨hP⟩) Q := wp_assume_of 𝒱₀ (thr d L) none Set.univ hP
  rw [e]
  iintro H Hk
  iapply (SparseCore.wp_vectorLoadIdx 𝒱₀ (thr d L) none Set.univ (base := a9) (S := Finset.univ) (q := fullShare) (Finset.subset_univ _)) $$ H
  iintro H
  have e : loadIdx (((a9).access (Rect.whole cc0_scratch1.ty.shape)).read (Elt F) f) ![v] (hi ⟨hP⟩) = colV (fun l => rowOf 4 f (R l)) k := by
    rw [Memref.read_access_whole]; exact loadIdx_names f hv (hi ⟨hP⟩)
  rw [e]
  iapply Hk; iexact H

/-- A window ends by returning its value; a check ends it where no access follows. -/
theorem ret_wp {a b : α} {Q : α → sProp 𝕄} (h : a = b) : Q b ⊢ WP d L (pure a) Q := by
  rw [← h]
  show Q a ⊢ iprop(|={Set.univ}[_]=> Q a)
  iintro H; imodintro; iexact H
theorem assume_wp {P : Prop} {dP : Decidable P} (hP : P) {C : PLift P → PG F L α} {Q : α → sProp 𝕄} :
    WP d L (C ⟨hP⟩) Q ⊢ WP d L (Prog.lift (TpuEff.assume P dP) >>= C) Q :=
  BIBase.Entails.of_eq (wp_assume_of 𝒱₀ (thr d L) none Set.univ hP).symm

/-! ## The windows of a trip -/

/-- The sixteen rows of trip `t`. -/
abbrev rows (t : Nat) : S16.Idx → Nat := fun l => 16 * t + (l 0).val
/-- The lane numbers. -/
abbrev lanes : IVec S16 32 := iota .scVector S16 32 [0] iota_S16_d0_w32_scVector
/-- The flat positions of the sixteen rows' first logits, and of their boxes' first corners. -/
abbrev rowsV (t : Fin k0_t1_loop.trips) : IVec S16 32 := k0_pay1 lanes 0#32 1#32 t
abbrev lbV (t : Fin k0_t1_loop.trips) : IVec S16 32 := k0_pay2 lanes 0#32 1#32 t

theorem rows_lt (t : Fin k0_t1_loop.trips) (l : S16.Idx) : rows t.val l < 2000 := by
  have h1 : t.val < 125 := t.isLt
  have h2 : (l 0).val < 16 := (l 0).isLt
  show 16 * t.val + (l 0).val < 2000
  omega

theorem names_rows (t : Fin k0_t1_loop.trips) : Names (rowsV t) (rows t.val) 1 0 := by
  intro l
  have h1 : t.val < 125 := t.isLt
  have h2 : (l 0).val < 16 := (l 0).isLt
  show ((0#32 + BitVec.ofNat 32 t.val * 1#32) * 16#32 + BitVec.ofNat 32 (0 * 16 + (l 0).val)).toNat = _
  have e : rows t.val l = 16 * t.val + (l 0).val := rfl
  rw [e]
  simp only [BitVec.toNat_add, BitVec.toNat_mul, BitVec.toNat_ofNat]
  omega

theorem names_lb (t : Fin k0_t1_loop.trips) : Names (lbV t) (rows t.val) 25 0 := by
  intro l
  have h0 := names_rows t l
  have h1 := rows_lt t l
  show (rowsV t l * 25#32).toNat = _
  rw [BitVec.toNat_mul, h0, BitVec.toNat_ofNat]
  omega

theorem names_db (t : Fin k0_t1_loop.trips) : Names (k0_pay75 (rowsV t)) (rows t.val) 4 0 := by
  intro l
  have h0 := names_rows t l
  have h1 := rows_lt t l
  show (rowsV t l * 4#32).toNat = _
  rw [BitVec.toNat_mul, h0, BitVec.toNat_ofNat]
  omega

section Cols
variable (t : Fin k0_t1_loop.trips)

/-- Column `k` of a row, and column `4 + c` reached in two steps. -/
theorem names_col {a : Nat} (ha : a < 25) : Names (addi (lbV t) (broadcast S16 (BitVec.ofNat 32 a))) (rows t.val) 25 (0 + a) :=
  (names_lb t).add (rows_lt t) (le_refl _) (by omega)
theorem names_col4 {c : Nat} (hc : c < 21) :
    Names (addi (addi (lbV t) (broadcast S16 4#32)) (broadcast S16 (BitVec.ofNat 32 c))) (rows t.val) 25 (0 + 4 + c) :=
  (names_col t (a := 4) (by omega)).add (rows_lt t) (le_refl _) (by omega)
theorem names_dcol {a : Nat} (ha : a < 4) : Names (addi (k0_pay75 (rowsV t)) (broadcast S16 (BitVec.ofNat 32 a))) (rows t.val) 4 (0 + a) :=
  (names_db t).add (rows_lt t) (by omega) (by omega)
theorem inb_lb {v : IVec S16 32} {k : Nat} (h : Names v (rows t.val) 25 k) (hk : k < 25) :
    ∀ (a : Fin 1) x, ((![v] : Fin 1 → IVec S16 32) a x).toNat < S50000.size a := h.inb (rows_lt t) rfl hk
theorem inb_db {v : IVec S16 32} {k : Nat} (h : Names v (rows t.val) 4 k) (hk : k < 4) :
    ∀ (a : Fin 1) x, ((![v] : Fin 1 → IVec S16 32) a x).toNat < S8000.size a := h.inb (rows_lt t) rfl hk
end Cols

section Parts
variable (t : Fin k0_t1_loop.trips) {f : Vec F S50000 .f32} {g : Vec F S8000 .f32}

/-- The sixteen rows of the logits, and of the default boxes, that trip `t` reads. -/
abbrev XR (f : Vec F S50000 .f32) : S16.Idx → Nat → F .f32 := fun l => rowOf 25 f (rows t.val l)
abbrev BR (g : Vec F S8000 .f32) : S16.Idx → Nat → F .f32 := fun l => rowOf 4 g (rows t.val l)

/-- The decoded boxes of sixteen rows, by lane: a centre, an extent, a corner before its mask, a masked corner, the mask. -/
abbrev bitV (X : S16.Idx → Nat → F .f32) : IVec S16 1 := fun l => mbit (X l)
abbrev fltV (X : S16.Idx → Nat → F .f32) : FVec F S16 .f32 := fun l => mflt (X l)
abbrev cenV (X B : S16.Idx → Nat → F .f32) (k : Nat) : FVec F S16 .f32 := fun l => centre (X l k) (B l k) (B l (k + 2))
abbrev spanV (X B : S16.Idx → Nat → F .f32) (k : Nat) : FVec F S16 .f32 := fun l => FloatOps.mulf (FloatOps.exp (X l k)) (FloatOps.subf (B l k) (B l (k - 2)))
abbrev farV (X B : S16.Idx → Nat → F .f32) (k : Nat) : FVec F S16 .f32 :=
  fun l => FloatOps.addf (centre (X l k) (B l k) (B l (k + 2))) (reach (X l (k + 2)) (B l k) (B l (k + 2)))
abbrev cornV (X B : S16.Idx → Nat → F .f32) (j : Nat) : FVec F S16 .f32 := fun l => corner (X l) (B l) j

/-- Columns 0 to 6: the four location logits and the first three classes. -/
theorem part1_wp {Q : _ → sProp 𝕄} : lbPts d L f ⊢ iprop((lbPts d L f -∗ Q ⟨Scf.iv 0#32 1#32 t, rowsV t, lbV t, colV (XR t f) 0, colV (XR t f) 1, colV (XR t f) 2, colV (XR t f) 3,
      bestV (XR t f) 2, clsV (XR t f) 2, k0_pay14 (lbV t), 3#32⟩)
    -∗ WP d L (k0_part1 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      lanes k0_pay446 0#32 1#32 t) Q) := by
  rw [k0_part1_eq_skeleton]
  iintro H Hk
  delta k0_part1_skel
  dsimp only
  have hn : Names (lbV t) (rows t.val) 25 0 := names_lb t
  iapply (load_lb d L hn (inb_lb t hn (by omega))) $$ H
  iintro H
  have hn : Names (k0_pay3 (lbV t)) (rows t.val) 25 1 := names_col t (a := 1) (by omega)
  iapply (load_lb d L hn (inb_lb t hn (by omega))) $$ H
  iintro H
  have hn : Names (k0_pay4 (lbV t)) (rows t.val) 25 2 := names_col t (a := 2) (by omega)
  iapply (load_lb d L hn (inb_lb t hn (by omega))) $$ H
  iintro H
  have hn : Names (k0_pay5 (lbV t)) (rows t.val) 25 3 := names_col t (a := 3) (by omega)
  iapply (load_lb d L hn (inb_lb t hn (by omega))) $$ H
  iintro H
  have hn : Names (k0_pay6 (lbV t)) (rows t.val) 25 4 := names_col t (a := 4) (by omega)
  iapply (load_lb d L hn (inb_lb t hn (by omega))) $$ H
  iintro H
  have hn : Names (k0_pay7 (lbV t)) (rows t.val) 25 5 := names_col4 t (c := 1) (by omega)
  iapply (load_lb d L hn (inb_lb t hn (by omega))) $$ H
  iintro H
  have hn : Names (k0_pay10 (lbV t)) (rows t.val) 25 6 := names_col4 t (c := 2) (by omega)
  iapply (load_lb d L hn (inb_lb t hn (by omega))) $$ H
  iintro H
  iapply (ret_wp d L (b := ⟨Scf.iv 0#32 1#32 t, rowsV t, lbV t, colV (XR t f) 0, colV (XR t f) 1, colV (XR t f) 2, colV (XR t f) 3,
      bestV (XR t f) 2, clsV (XR t f) 2, k0_pay14 (lbV t), 3#32⟩) (by rfl))
  iapply Hk; iexact H

/-- Classes 3 to 7; class 7 compared but not yet taken. -/
theorem part2_wp {Q : _ → sProp 𝕄} : lbPts d L f ⊢ iprop((lbPts d L f -∗ Q ⟨clsV (XR t f) 6, cmpf .ogt (colV (XR t f) 11) (bestV (XR t f) 6), bestV (XR t f) 7, k0_pay31⟩)
    -∗ WP d L (k0_part2 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      (lbV t) (bestV (XR t f) 2) (clsV (XR t f) 2) (k0_pay14 (lbV t)) 3#32) Q) := by
  rw [k0_part2_eq_skeleton]
  iintro H Hk
  delta k0_part2_skel
  dsimp only
  have hn : Names (k0_pay15 (k0_pay14 (lbV t)) 3#32) (rows t.val) 25 7 := names_col4 t (c := 3) (by omega)
  iapply (load_lb d L hn (inb_lb t hn (by omega))) $$ H
  iintro H
  have hn : Names (k0_pay18 (lbV t)) (rows t.val) 25 8 := names_col4 t (c := 4) (by omega)
  iapply (load_lb d L hn (inb_lb t hn (by omega))) $$ H
  iintro H
  have hn : Names (k0_pay21 (lbV t)) (rows t.val) 25 9 := names_col4 t (c := 5) (by omega)
  iapply (load_lb d L hn (inb_lb t hn (by omega))) $$ H
  iintro H
  have hn : Names (k0_pay24 (lbV t)) (rows t.val) 25 10 := names_col4 t (c := 6) (by omega)
  iapply (load_lb d L hn (inb_lb t hn (by omega))) $$ H
  iintro H
  have hn : Names (k0_pay28 (lbV t)) (rows t.val) 25 11 := names_col4 t (c := 7) (by omega)
  iapply (load_lb d L hn (inb_lb t hn (by omega))) $$ H
  iintro H
  iapply (ret_wp d L (b := ⟨clsV (XR t f) 6, cmpf .ogt (colV (XR t f) 11) (bestV (XR t f) 6), bestV (XR t f) 7, k0_pay31⟩) (by rfl))
  iapply Hk; iexact H

/-- Classes 8 to 11, and the check of class 12. -/
theorem part3_wp (hw : k0_chk17 (k0_pay45 (lbV t))) {Q : _ → sProp 𝕄} : lbPts d L f ⊢ iprop((lbPts d L f -∗ Q ⟨bestV (XR t f) 11, clsV (XR t f) 11, k0_pay45 (lbV t), hw⟩)
    -∗ WP d L (k0_part3 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      (lbV t) (clsV (XR t f) 6) (cmpf .ogt (colV (XR t f) 11) (bestV (XR t f) 6)) (bestV (XR t f) 7) k0_pay31) Q) := by
  rw [k0_part3_eq_skeleton]
  iintro H Hk
  delta k0_part3_skel
  dsimp only
  have hn : Names (k0_pay32 (lbV t)) (rows t.val) 25 12 := names_col4 t (c := 8) (by omega)
  iapply (load_lb d L hn (inb_lb t hn (by omega))) $$ H
  iintro H
  have hn : Names (k0_pay35 (lbV t)) (rows t.val) 25 13 := names_col4 t (c := 9) (by omega)
  iapply (load_lb d L hn (inb_lb t hn (by omega))) $$ H
  iintro H
  have hn : Names (k0_pay38 (lbV t)) (rows t.val) 25 14 := names_col4 t (c := 10) (by omega)
  iapply (load_lb d L hn (inb_lb t hn (by omega))) $$ H
  iintro H
  have hn : Names (k0_pay41 (lbV t)) (rows t.val) 25 15 := names_col4 t (c := 11) (by omega)
  iapply (load_lb d L hn (inb_lb t hn (by omega))) $$ H
  iintro H
  iapply (assume_wp d L hw)
  iapply (ret_wp d L (b := ⟨bestV (XR t f) 11, clsV (XR t f) 11, k0_pay45 (lbV t), hw⟩) (by rfl))
  iapply Hk; iexact H

/-- Classes 12 to 16. -/
theorem part4_wp (hw : k0_chk17 (k0_pay45 (lbV t))) {Q : _ → sProp 𝕄} : lbPts d L f ⊢ iprop((lbPts d L f -∗ Q ⟨bestV (XR t f) 16, clsV (XR t f) 16, k0_pay61⟩)
    -∗ WP d L (k0_part4 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      (lbV t) (bestV (XR t f) 11) (clsV (XR t f) 11) (k0_pay45 (lbV t)) hw) Q) := by
  rw [k0_part4_eq_skeleton]
  iintro H Hk
  delta k0_part4_skel
  dsimp only
  have hn : Names (k0_pay45 (lbV t)) (rows t.val) 25 16 := names_col4 t (c := 12) (by omega)
  iapply (gather_lb d L hn) $$ H
  iintro H
  have hn : Names (k0_pay48 (lbV t)) (rows t.val) 25 17 := names_col4 t (c := 13) (by omega)
  iapply (load_lb d L hn (inb_lb t hn (by omega))) $$ H
  iintro H
  have hn : Names (k0_pay51 (lbV t)) (rows t.val) 25 18 := names_col4 t (c := 14) (by omega)
  iapply (load_lb d L hn (inb_lb t hn (by omega))) $$ H
  iintro H
  have hn : Names (k0_pay54 (lbV t)) (rows t.val) 25 19 := names_col4 t (c := 15) (by omega)
  iapply (load_lb d L hn (inb_lb t hn (by omega))) $$ H
  iintro H
  have hn : Names (k0_pay57 (lbV t)) (rows t.val) 25 20 := names_col4 t (c := 16) (by omega)
  iapply (load_lb d L hn (inb_lb t hn (by omega))) $$ H
  iintro H
  iapply (ret_wp d L (b := ⟨bestV (XR t f) 16, clsV (XR t f) 16, k0_pay61⟩) (by rfl))
  iapply Hk; iexact H

/-- Classes 17 to 20, and the first two corners of the default boxes. -/
theorem part5_wp (hw : k0_chk26 (k0_pay75 (rowsV t))) {Q : _ → sProp 𝕄} : iprop(lbPts d L f ∗ dbPts d L g) ⊢ iprop((lbPts d L f ∗ dbPts d L g -∗ Q ⟨bestV (XR t f) 20, clsV (XR t f) 20, k0_pay75 (rowsV t), hw, colV (BR t g) 0, colV (BR t g) 1⟩)
    -∗ WP d L (k0_part5 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      (rowsV t) (lbV t) (bestV (XR t f) 16) (clsV (XR t f) 16) k0_pay61) Q) := by
  rw [k0_part5_eq_skeleton]
  iintro ⟨H, Hd⟩ Hk
  delta k0_part5_skel
  dsimp only
  have hn : Names (k0_pay62 (lbV t) k0_pay61) (rows t.val) 25 21 := names_col4 t (c := 17) (by omega)
  iapply (load_lb d L hn (inb_lb t hn (by omega))) $$ H
  iintro H
  have hn : Names (k0_pay65 (lbV t)) (rows t.val) 25 22 := names_col4 t (c := 18) (by omega)
  iapply (load_lb d L hn (inb_lb t hn (by omega))) $$ H
  iintro H
  have hn : Names (k0_pay68 (lbV t)) (rows t.val) 25 23 := names_col4 t (c := 19) (by omega)
  iapply (load_lb d L hn (inb_lb t hn (by omega))) $$ H
  iintro H
  have hn : Names (k0_pay71 (lbV t)) (rows t.val) 25 24 := names_col4 t (c := 20) (by omega)
  iapply (load_lb d L hn (inb_lb t hn (by omega))) $$ H
  iintro H
  iapply (load_db d L (names_db t) hw) $$ Hd
  iintro Hd
  have hn : Names (k0_pay76 (k0_pay75 (rowsV t))) (rows t.val) 4 1 := names_dcol t (a := 1) (by omega)
  iapply (load_db d L hn (inb_db t hn (by omega))) $$ Hd
  iintro Hd
  iapply (ret_wp d L (b := ⟨bestV (XR t f) 20, clsV (XR t f) 20, k0_pay75 (rowsV t), hw, colV (BR t g) 0, colV (BR t g) 1⟩) (by rfl))
  iapply Hk; isplitl [H]; · iexact H
  iexact Hd

/-- The other two corners, and the decoded box. -/
theorem part6_wp {Q : _ → sProp 𝕄} : iprop(lbPts d L f ∗ dbPts d L g) ⊢ iprop((lbPts d L f ∗ dbPts d L g -∗ Q ⟨cenV (XR t f) (BR t g) 1, spanV (XR t f) (BR t g) 3, bitV (XR t f), fltV (XR t f), cornV (XR t f) (BR t g) 0, cornV (XR t f) (BR t g) 1, farV (XR t f) (BR t g) 0, zero⟩)
    -∗ WP d L (k0_part6 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
      (colV (XR t f) 0) (colV (XR t f) 1) (colV (XR t f) 2) (colV (XR t f) 3) (clsV (XR t f) 20) (k0_pay75 (rowsV t)) (colV (BR t g) 0) (colV (BR t g) 1)) Q) := by
  rw [k0_part6_eq_skeleton]
  iintro ⟨H, Hd⟩ Hk
  delta k0_part6_skel
  dsimp only
  have hn : Names (k0_pay77 (k0_pay75 (rowsV t))) (rows t.val) 4 2 := names_dcol t (a := 2) (by omega)
  iapply (load_db d L hn (inb_db t hn (by omega))) $$ Hd
  iintro Hd
  have hn : Names (k0_pay78 (k0_pay75 (rowsV t))) (rows t.val) 4 3 := names_dcol t (a := 3) (by omega)
  iapply (load_db d L hn (inb_db t hn (by omega))) $$ Hd
  iintro Hd
  iapply (ret_wp d L (b := ⟨cenV (XR t f) (BR t g) 1, spanV (XR t f) (BR t g) 3, bitV (XR t f), fltV (XR t f), cornV (XR t f) (BR t g) 0, cornV (XR t f) (BR t g) 1, farV (XR t f) (BR t g) 0, zero⟩) (by rfl))
  iapply Hk; isplitl [H]; · iexact H
  iexact Hd

end Parts

/-! ## The stores -/

/-- A scatter into the boxes' scratch. -/
theorem store_bx {Q : α → sProp 𝕄} {b : Vec F S8000 .f32} {v : IVec S16 32} {u : Vec F S16 .f32}
    {hi : ∀ (a : Fin 1) x, ((![v] : Fin 1 → IVec S16 32) a x).toNat < S8000.size a} {hs : ((a10).access (.whole S8000)).Stores Finset.univ}
    {C : PUnit → PG F L α} :
    bxPts d L b ⊢ iprop((bxPts d L (storeIdx b ![v] u (fun _ => 1#1) false hi) -∗ WP d L (C ⟨⟩) Q)
      -∗ WP d L (SparseCore.vectorStoreIdx a10 ![v] u (fun _ => 1#1) false hi hs >>= C) Q) := by
  have h := SparseCore.wp_vectorStoreIdx (defs := defs₀ (F := F)) (Q := Q) 𝒱₀ (thr d L) none Set.univ (base := a10) (idxs := ![v]) (v := u) (mask := fun _ => 1#1)
    (add := false) (h := hi) (hs := hs) (k := C) (f := b)
  rw [Memref.write_access_whole_univ, Memref.read_access_whole] at h
  have e : ((a10).access (Rect.whole cc0_scratch2.ty.shape)).set = Finset.univ := Memref.set_access_whole _
  rw [e] at h
  exact h

/-- The same, the check of its indices passed first. -/
theorem store_bx' {Q : α → sProp 𝕄} {b : Vec F S8000 .f32} {v : IVec S16 32} {u : Vec F S16 .f32} {P : Prop} {dP : Decidable P} (hP : P)
    {hi : PLift P → ∀ (a : Fin 1) x, ((![v] : Fin 1 → IVec S16 32) a x).toNat < S8000.size a} {hs : ((a10).access (.whole S8000)).Stores Finset.univ}
    {C : PLift P → PUnit → PG F L α} :
    bxPts d L b ⊢ iprop((bxPts d L (storeIdx b ![v] u (fun _ => 1#1) false (hi ⟨hP⟩)) -∗ WP d L (C ⟨hP⟩ ⟨⟩) Q)
      -∗ WP d L (Prog.lift (TpuEff.assume P dP) >>= fun h => SparseCore.vectorStoreIdx a10 ![v] u (fun _ => 1#1) false (hi h) hs >>= C h) Q) := by
  have e : WP d L (Prog.lift (TpuEff.assume P dP) >>= fun h => SparseCore.vectorStoreIdx a10 ![v] u (fun _ => 1#1) false (hi h) hs >>= C h) Q
      = WP d L (SparseCore.vectorStoreIdx a10 ![v] u (fun _ => 1#1) false (hi ⟨hP⟩) hs >>= C ⟨hP⟩) Q := wp_assume_of 𝒱₀ (thr d L) none Set.univ hP
  rw [e]
  exact store_bx d L

/-- A row of scores, and of classes, read and then stored. -/
theorem store_sc {Q : α → sProp 𝕄} {b : Vec F S2000 .f32} {r : Rect S2000} {w : r.shape.Idx → F .f32}
    {hl : (a11).view.LoadsAt r.toLoadRect} {hx : ((a11).access r).Stores Finset.univ} {hm : Finset.univ = Finset.univ ∨ ∀ a, r.stride a = 1}
    {C : PUnit → PG F L α} :
    scPts d L b ⊢ iprop((scPts d L ((a11).view.writes (Elt F) b [⟨r, w⟩]) -∗ WP d L (C ⟨⟩) Q)
      -∗ WP d L (Prog.lift (.load a11 r.toLoadRect hl) >>= fun _ => Prog.lift (.store a11 r w Finset.univ hx hm) >>= C) Q) := by
  iintro H Hk
  iapply (wp_load (defs := defs₀ (F := F)) 𝒱₀ (thr d L) none Set.univ (Q := Q) (m := a11) (r := r.toLoadRect) (hl := hl)
    (k := fun _ => Prog.lift (.store a11 r w Finset.univ hx hm) >>= C) (S := Finset.univ) (q := fullShare) (f := b) (Finset.subset_univ _)) $$ H
  iintro H
  iapply (wp_store_writes₀ (defs := defs₀ (F := F)) 𝒱₀ (thr d L) none Set.univ (Q := Q) (m := a11) (r := r) (w := w) (hx := hx) (hm := hm)
    (k := C) (S := Finset.univ) (f := b) (Finset.subset_univ _)) $$ H
  iexact Hk
theorem store_cl {Q : α → sProp 𝕄} {b : Vec F S2000 .i32} {r : Rect S2000} {w : r.shape.Idx → BitVec 32}
    {hl : (a12).view.LoadsAt r.toLoadRect} {hx : ((a12).access r).Stores Finset.univ} {hm : Finset.univ = Finset.univ ∨ ∀ a, r.stride a = 1}
    {C : PUnit → PG F L α} :
    clPts d L b ⊢ iprop((clPts d L ((a12).view.writes (Elt F) b [⟨r, w⟩]) -∗ WP d L (C ⟨⟩) Q)
      -∗ WP d L (Prog.lift (.load a12 r.toLoadRect hl) >>= fun _ => Prog.lift (.store a12 r w Finset.univ hx hm) >>= C) Q) := by
  iintro H Hk
  iapply (wp_load (defs := defs₀ (F := F)) 𝒱₀ (thr d L) none Set.univ (Q := Q) (m := a12) (r := r.toLoadRect) (hl := hl)
    (k := fun _ => Prog.lift (.store a12 r w Finset.univ hx hm) >>= C) (S := Finset.univ) (q := fullShare) (f := b) (Finset.subset_univ _)) $$ H
  iintro H
  iapply (wp_store_writes₀ (defs := defs₀ (F := F)) 𝒱₀ (thr d L) none Set.univ (Q := Q) (m := a12) (r := r) (w := w) (hx := hx) (hm := hm)
    (k := C) (S := Finset.univ) (f := b) (Finset.subset_univ _)) $$ H
  iexact Hk

theorem bind_wp {β : Type} {p : PG F L β} {k : β → PG F L α} {Q : α → sProp 𝕄} : WP d L p (fun a => WP d L (k a) Q) ⊢ WP d L (p >>= k) Q :=
  BIBase.Entails.of_eq (wp_bind _ _ _ _ _ _).symm

/-- The rectangle of trip `t` in a buffer of one element a row. -/
abbrev rowR (t : Fin k0_t1_loop.trips) : Rect S2000 := Rect.unit (s := S2000) (k0_off3 t) S16.size (k0_off3_inb t)

/-- The scores' and classes' rows after a trip's store. -/
theorem scores_step {f : Vec F S50000 .f32} {b : Vec F S2000 .f32} (t : Fin k0_t1_loop.trips) (H : ScoresTo f b (16 * t.val)) :
    ScoresTo f ((a11).view.writes (Elt F) b [⟨rowR t, fun l => score (rowOf 25 f (rows t.val l))⟩]) (16 * (t.val + 1)) := by
  intro r hr
  have ht : t.val < 125 := t.isLt
  have ho : (rowR t).off 0 = 16 * t.val := congrFun (k0_off3_eq t) 0
  by_cases hlo : r < 16 * t.val
  · refine Eq.trans ?_ (H r hlo)
    refine (View.read_writes_cons_miss_of_axis (a11).view b _ [] (pos 2000 r) 0 (16 * t.val) 16 ho rfl rfl (Or.inl ?_))
    rw [pos_val (by omega)]; exact hlo
  · obtain ⟨l, rfl⟩ := lane_of (Nat.le_of_not_lt hlo) hr
    refine View.read_writes_cons_hit_of_coords (a11).view b (rowR t) _ [] l (pos 2000 _) ?_
    intro a
    match a with
    | ⟨0, _⟩ =>
      have h2 : (l 0).val < 16 := (l 0).isLt
      show (pos 2000 (16 * t.val + (l 0).val) 0).val = (rowR t).off 0 + 1 * (l 0).val
      rw [pos_val (by omega), ho, Nat.one_mul]

theorem classes_step {f : Vec F S50000 .f32} {b : Vec F S2000 .i32} (t : Fin k0_t1_loop.trips) (H : ClassesTo f b (16 * t.val)) :
    ClassesTo f ((a12).view.writes (Elt F) b [⟨rowR t, fun l => cls (rowOf 25 f (rows t.val l))⟩]) (16 * (t.val + 1)) := by
  intro r hr
  have ht : t.val < 125 := t.isLt
  have ho : (rowR t).off 0 = 16 * t.val := congrFun (k0_off3_eq t) 0
  by_cases hlo : r < 16 * t.val
  · refine Eq.trans ?_ (H r hlo)
    refine (View.read_writes_cons_miss_of_axis (a12).view b _ [] (pos 2000 r) 0 (16 * t.val) 16 ho rfl rfl (Or.inl ?_))
    rw [pos_val (by omega)]; exact hlo
  · obtain ⟨l, rfl⟩ := lane_of (Nat.le_of_not_lt hlo) hr
    refine View.read_writes_cons_hit_of_coords (a12).view b (rowR t) _ [] l (pos 2000 _) ?_
    intro a
    match a with
    | ⟨0, _⟩ =>
      have h2 : (l 0).val < 16 := (l 0).isLt
      show (pos 2000 (16 * t.val + (l 0).val) 0).val = (rowR t).off 0 + 1 * (l 0).val
      rw [pos_val (by omega), ho, Nat.one_mul]

/-! ## The trip -/

/-- What the loop holds after `t` trips: the two inputs' blocks, and the three results' with their first `16 t` rows written. -/
def inv (f : Vec F S50000 .f32) (g : Vec F S8000 .f32) (t : Nat) : sProp 𝕄 :=
  iprop(lbPts d L f ∗ dbPts d L g ∗ ∃ (bx : Vec F S8000 .f32) (sc : Vec F S2000 .f32) (cl : Vec F S2000 .i32),
    bxPts d L bx ∗ scPts d L sc ∗ clPts d L cl ∗ ⌜BoxesTo f g bx (16 * t) ∧ ScoresTo f sc (16 * t) ∧ ClassesTo f cl (16 * t)⌝)

theorem trip_wp {f : Vec F S50000 .f32} {g : Vec F S8000 .f32} (t : Fin k0_t1_loop.trips) (acc : IVec S16 32) (v28 v31 v34 v36 c25 : BitVec 32)
    {Q : _ → sProp 𝕄} :
    inv d L f g t.val ⊢ iprop((inv d L f g (t.val + 1) -∗ Q (fun l => acc l + mword (rowOf 25 f (16 * t.val + (l 0).val))))
      -∗ WP d L (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25
        v28 v31 lanes k0_pay446 v34 v36 c25 t acc) Q) := by
  have ht : t.val < 125 := t.isLt
  have n0 := names_db t
  have n1 : Names (k0_pay449 (k0_pay75 (rowsV t))) (rows t.val) 4 1 := names_dcol t (a := 1) (by omega)
  have n2 : Names (k0_pay450 (k0_pay75 (rowsV t))) (rows t.val) 4 2 := names_dcol t (a := 2) (by omega)
  have n3 : Names (k0_pay451 (k0_pay75 (rowsV t))) (rows t.val) 4 3 := names_dcol t (a := 3) (by omega)
  unfold inv
  iintro ⟨H, Hd, %bx, %sc, %cl, Hb, Hs, Hc, %hP⟩ Hk
  delta k0_t1_body
  dsimp only
  iapply bind_wp
  iapply (part1_wp d L t) $$ H; iintro H
  dsimp only
  iapply bind_wp
  iapply (part2_wp d L t) $$ H; iintro H
  dsimp only
  iapply bind_wp
  iapply (part3_wp d L t (inb_lb t (names_col4 t (c := 12) (by omega)) (by omega))) $$ H; iintro H
  dsimp only
  iapply bind_wp
  iapply (part4_wp d L t) $$ H; iintro H
  dsimp only
  iapply bind_wp
  iapply (part5_wp d L t ⟨inb_db t n0 (by omega), inb_db t n0 (by omega)⟩) $$ [H Hd]
  · isplitl [H]; · iexact H
    iexact Hd
  iintro ⟨H, Hd⟩
  dsimp only
  iapply bind_wp
  iapply (part6_wp d L t) $$ [H Hd]
  · isplitl [H]; · iexact H
    iexact Hd
  iintro ⟨H, Hd⟩
  dsimp only
  iapply (store_bx d L) $$ Hb; iintro Hb
  iapply (store_bx' d L (inb_db t n1 (by omega))) $$ Hb; iintro Hb
  iapply (store_bx' d L (inb_db t n2 (by omega))) $$ Hb; iintro Hb
  iapply (store_bx' d L (inb_db t n3 (by omega))) $$ Hb; iintro Hb
  iapply (store_sc d L) $$ Hs; iintro Hs
  iapply (store_cl d L) $$ Hc; iintro Hc
  iapply (ret_wp d L (b := fun l => acc l + mword (rowOf 25 f (16 * t.val + (l 0).val))) (by rfl))
  iapply Hk
  isplitl [H]; · iexact H
  isplitl [Hd]; · iexact Hd
  iexists _, _, _
  isplitl [Hb]; · iexact Hb
  isplitl [Hs]; · iexact Hs
  isplitl [Hc]; · iexact Hc
  ipureintro
  refine ⟨ColsTo.done ?_, scores_step t hP.2.1, classes_step t hP.2.2⟩
  refine ColsTo.step ht ?_ (by omega) n3 ?_ _
  · refine ColsTo.step ht ?_ (by omega) n2 ?_ _
    · refine ColsTo.step ht ?_ (by omega) n1 ?_ _
      · exact ColsTo.step ht (ColsTo.start hP.1) (by omega) n0 rfl _
      · rfl
    · rfl
  · rfl

end Steps

end Cert.Proof.KernelIdeal

end
-- ==== Proof.ITile.lean ====
/-
  A task, at symbolic coordinates: five chunks of 2000 rows, each copied in, decoded by the row loop and copied out, and the
  task's row of counts. What the task leaves in its parts of the results is stated by the whole arrays of `Spec`.
-/
module

public import proofs.«01_k».proof.Proof.ITrip
public import proofs.«01_k».proof.Proof.Spec

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ UU ℕ
local notation "a2" => (Memref.whole main_v0_scv)
local notation "a3" => (Memref.whole main_v1_scv)
local notation "a4" => (Memref.whole main_v2_0_scv)
local notation "a5" => (Memref.whole main_v2_1_scv)
local notation "a6" => (Memref.whole main_v2_2_scv)
local notation "a7" => (Memref.whole main_v2_3_scv)
local notation "a8" => (Memref.whole cc0_scratch0)
local notation "a9" => (Memref.whole cc0_scratch1)
local notation "a10" => (Memref.whole cc0_scratch2)
local notation "a11" => (Memref.whole cc0_scratch3)
local notation "a12" => (Memref.whole cc0_scratch4)
local notation "a13" => (Memref.whole cc0_scratch5)

section Tile

variable (d : Dev nD) (L : grid0.Coords)

/-! ## The parts of the arrays a task works on -/

/-- The first row of chunk `r`. -/
def base (r : Fin 5) : Nat := 10000 * (2 * (L 1).val + (L 0).val) + 2000 * r.val
abbrev wd (r : Fin 5) : BitVec 32 := BitVec.ofNat 32 (2000 * r.val)

theorem off1_val : ∀ (L : grid0.Coords) (r : Fin 5), k0_off1 L (wd r) 0 = 25 * (10000 * (2 * (L 1).val + (L 0).val) + 2000 * r.val) := by decide +kernel
theorem off2_val : ∀ (L : grid0.Coords) (r : Fin 5), k0_off2 L (wd r) 0 = 4 * ((10000 * (2 * (L 1).val + (L 0).val) + 2000 * r.val) % 20000) := by decide +kernel
theorem off4_val : ∀ (L : grid0.Coords) (r : Fin 5), k0_off4 L (wd r) 0 = 4 * (10000 * (2 * (L 1).val + (L 0).val) + 2000 * r.val) := by decide +kernel
theorem off5_val : ∀ (L : grid0.Coords) (r : Fin 5), k0_off5 L (wd r) 0 = 10000 * (2 * (L 1).val + (L 0).val) + 2000 * r.val := by decide +kernel

theorem L0_lt : (L 0).val < 2 := (L 0).isLt
theorem L1_lt : (L 1).val < 16 := (L 1).isLt
theorem base_le (r : Fin 5) : base L r + 2000 ≤ 320000 := by
  have h0 := L0_lt L; have h1 := L1_lt L; have h2 := r.isLt; unfold base; omega
theorem base_mod (r : Fin 5) : base L r % 20000 + 2000 ≤ 20000 := by
  have h0 := L0_lt L; have h1 := L1_lt L; have h2 := r.isLt; unfold base; omega

abbrev lgV (r : Fin 5) : Memref sig .scVector .hbm S50000 .f32 := (a2).slice (Rect.unit (s := S8000000) (k0_off1 L (wd r)) S50000.size (k0_off1_inb L r)) (fun _ => rfl)
abbrev anV (r : Fin 5) : Memref sig .scVector .hbm S8000 .f32 := (a3).slice (Rect.unit (s := S80000) (k0_off2 L (wd r)) S8000.size (k0_off2_inb L r)) (fun _ => rfl)
abbrev bxV (r : Fin 5) : Memref sig .scVector .hbm S8000 .f32 := (a4).slice (Rect.unit (s := S1280000) (k0_off4 L (wd r)) S8000.size (k0_off4_inb L r)) (fun _ => rfl)
abbrev scV (r : Fin 5) : Memref sig .scVector .hbm S2000 .f32 := (a5).slice (Rect.unit (s := S320000) (k0_off5 L (wd r)) S2000.size (k0_off5_inb L r)) (fun _ => rfl)
abbrev clV (r : Fin 5) : Memref sig .scVector .hbm S2000 .i32 := (a6).slice (Rect.unit (s := S320000) (k0_off5 L (wd r)) S2000.size (k0_off5_inb L r)) (fun _ => rfl)
abbrev cnV : Memref sig .scVector .hbm S16 .i32 := ((a7).slice (Rect.unit (s := S32x16) (k0_off10 L) S1x16.size (k0_off10_inb L)) (fun _ => rfl)).squeeze S16 squeezes_S1x16_S16

abbrev bxO (r : Fin 5) (f : Vec F S1280000 .f32) : sProp 𝕄 := (bxV L r).view.loc (thr d L) ↦[(bxV L r).view.set]{fullShare} f
abbrev scO (r : Fin 5) (f : Vec F S320000 .f32) : sProp 𝕄 := (scV L r).view.loc (thr d L) ↦[(scV L r).view.set]{fullShare} f
abbrev clO (r : Fin 5) (f : Vec F S320000 .i32) : sProp 𝕄 := (clV L r).view.loc (thr d L) ↦[(clV L r).view.set]{fullShare} f
abbrev cnO (f : Vec F S32x16 .i32) : sProp 𝕄 := (cnV L).view.loc (thr d L) ↦[(cnV L).view.set]{fullShare} f
abbrev lgP (q : PosShare TreeShare) (f : Vec F S8000000 .f32) : sProp 𝕄 := (a2).view.loc (thr d L) ↦{q} f
abbrev anP (q : PosShare TreeShare) (f : Vec F S80000 .f32) : sProp 𝕄 := (a3).view.loc (thr d L) ↦{q} f
abbrev cbPts (f : Vec F S16 .i32) : sProp 𝕄 := (a13).view.loc (thr d L) ↦{fullShare} f
abbrev sem0 (s : DmaSem sig) : sProp 𝕄 := semVal ((thr d L, .dma s) : GSem nD τ sig) 0

theorem lgP_self (q : PosShare TreeShare) (f : Vec F S8000000 .f32) : ((View.whole main_v0_scv).loc (thr d L) ↦{q} f : sProp 𝕄) ⊢ lgP d L q f :=
  BIBase.Entails.rfl
theorem anP_self (q : PosShare TreeShare) (f : Vec F S80000 .f32) : ((View.whole main_v1_scv).loc (thr d L) ↦{q} f : sProp 𝕄) ⊢ anP d L q f :=
  BIBase.Entails.rfl

/-! ## What a transfer lands -/

/-- A view's elements after a write of the whole of it hold what the payload says. -/
theorem land_eq {sp : Space} {s : Shape} {e : EltTy} (v : View sig (thr d L).2.kind sp s e) {fb g : Buf (Elt F) (v.loc (thr d L))}
    {p : (Rect.whole s).shape.Idx → Elt F e} (h : ∀ x : s.Idx, v.read (Elt F) g x = p x) :
    ((v.loc (thr d L) ↦[v.set]{fullShare} v.writes (Elt F) fb [⟨Rect.whole s, p⟩]) : sProp 𝕄) = v.loc (thr d L) ↦[v.set]{fullShare} g :=
  pointsTo_congr fun i hi => by
    obtain ⟨x, -, rfl⟩ := Finset.mem_map.mp hi
    have e1 : v.read (Elt F) (v.writes (Elt F) fb [⟨Rect.whole s, p⟩]) x = p x := by
      have := View.read_writes_cons_emb (v := v) (f := fb) (Rect.whole s) p [] x
      rwa [show (Rect.whole s).emb x = x from by simp] at this
    have e2 := e1.trans (h x).symm
    rw [View.read_apply, View.read_apply] at e2
    exact (cast_inj _).mp e2

/-- A whole buffer overwritten whole holds the payload. -/
theorem scratch_eq (b : Ref sig .scVector) (f : b.ty.Contents (Elt F)) (p : (Rect.whole b.ty.shape).shape.Idx → Elt F b.ty.elt) (Ls) :
    (View.whole b).writes (Elt F) f (⟨Rect.whole b.ty.shape, p⟩ :: Ls) = p := by
  refine View.contents_ext (v := View.whole b) (fun x => ?_) fun i hi => absurd rfl (hi i)
  have := View.read_writes_cons_emb (v := View.whole b) (f := f) (Rect.whole b.ty.shape) p Ls x
  rw [show (Rect.whole b.ty.shape).emb x = x from by simp] at this
  exact this

theorem unit1_emb {n m : Nat} (off : Fin 1 → Nat) (h) (x : (⟨1, ![m]⟩ : Shape).Idx) :
    (((Rect.unit (s := ⟨1, ![n]⟩) off (⟨1, ![m]⟩ : Shape).size h).emb x) 0).val = off 0 + (x 0).val := by
  show off 0 + 1 * (x 0).val = _
  omega

/-! ## The five row loops are one -/

theorem loop2_eq (a x : IVec S16 32) (v28 v31 y : BitVec 32) : Scf.Loop.for k0_t2_loop k0_t2_ok a (k0_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 x y) = Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 y y y) := rfl
theorem loop3_eq (a x : IVec S16 32) (v28 v31 y : BitVec 32) : Scf.Loop.for k0_t3_loop k0_t3_ok a (k0_t3_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 x y) = Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 y y y) := rfl
theorem loop4_eq (a x : IVec S16 32) (v28 v31 : BitVec 32) : Scf.Loop.for k0_t4_loop k0_t4_ok a (k0_t4_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 x) = Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 0#32 0#32 0#32) := rfl
theorem loop5_eq (a x : IVec S16 32) (v28 v31 : BitVec 32) : Scf.Loop.for k0_t5_loop k0_t5_ok a (k0_t5_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 x) = Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 0#32 0#32 0#32) := rfl

/-- The row loop from any starting counts: the boxes, the scores and the classes of all 2000 rows written, the counts grown
    by every row's mask bit. -/
theorem loop_wp {f : Vec F S50000 .f32} {g : Vec F S8000 .f32} (a : IVec S16 32) (v28 v31 v34 v36 c25 : BitVec 32)
    {Q : IVec S16 32 → sProp 𝕄} :
    inv d L f g 0 ⊢ iprop((inv d L f g 125 -∗ Q (fun l => tally f (l 0).val (a l) 125))
      -∗ WP d L (Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 v34 v36 c25)) Q) := by
  iintro H Hk
  unfold WP
  sl_for (fun t (acc : IVec S16 32) => iprop(inv d L f g t ∗ ⌜acc = fun l => tally f (l 0).val (a l) t⌝)) $$ [H Hk]
  case region =>
    intro k acc
    iintro ⟨H, %hacc⟩
    iapply (trip_wp d L k acc) $$ H
    iintro H
    isplitl [H]; · iexact H
    ipureintro
    subst hacc
    rfl
  isplitl [H]
  · isplitl [H]; · iexact H
    ipureintro; rfl
  rw [show Scf.trips k0_t1_loop.lb k0_t1_loop.ub k0_t1_loop.st = 125 from rfl]
  iintro %acc ⟨H, %hacc⟩
  subst hacc
  iapply Hk
  iexact H

/-! ## A chunk -/

/-- What the scratch buffers hold of a chunk, as parts of the whole arrays. -/
def IsLg (X : Vec F S8000000 .f32) (r : Fin 5) (lb : Vec F S50000 .f32) : Prop := ∀ x : S50000.Idx, lb x = (lgV L r).view.read (Elt F) X x
def IsAn (Y : Vec F S80000 .f32) (r : Fin 5) (db : Vec F S8000 .f32) : Prop := ∀ x : S8000.Idx, db x = (anV L r).view.read (Elt F) Y x
def IsBx (X : Vec F S8000000 .f32) (Y : Vec F S80000 .f32) (r : Fin 5) (bx : Vec F S8000 .f32) : Prop :=
  ∀ x : S8000.Idx, (bxV L r).view.read (Elt F) (boxA X Y) x = bx x
def IsSc (X : Vec F S8000000 .f32) (r : Fin 5) (sc : Vec F S2000 .f32) : Prop :=
  ∀ x : S2000.Idx, (scV L r).view.read (Elt F) (scoreA X) x = sc x
def IsCl (X : Vec F S8000000 .f32) (r : Fin 5) (cl : Vec F S2000 .i32) : Prop :=
  ∀ x : S2000.Idx, (clV L r).view.read (Elt F) (classA X) x = cl x

theorem IsLg.intro {X : Vec F S8000000 .f32} {r : Fin 5} {lb p : Vec F S50000 .f32} (e : lb = p) (h : p = (lgV L r).view.read (Elt F) X) : IsLg L X r lb :=
  fun x => congrFun (e.trans h) x
theorem IsAn.intro {Y : Vec F S80000 .f32} {r : Fin 5} {db p : Vec F S8000 .f32} (e : db = p) (h : p = (anV L r).view.read (Elt F) Y) : IsAn L Y r db :=
  fun x => congrFun (e.trans h) x

section Parts
variable {L} {X : Vec F S8000000 .f32} {Y : Vec F S80000 .f32} {r : Fin 5} {lb : Vec F S50000 .f32} {db bx : Vec F S8000 .f32}
  {sc : Vec F S2000 .f32} {cl : Vec F S2000 .i32}

theorem IsLg.at (h : IsLg L X r lb) : ∀ k, k < 50000 → at1 lb k = at1 X (25 * base L r + k) := by
  intro k hk
  refine (h _).trans (congrArg X (eq_pos_of _ ?_))
  refine (unit1_emb _ (k0_off1_inb L r) (pos 50000 k)).trans ?_
  rw [off1_val, pos_val hk]; rfl

theorem IsAn.at (h : IsAn L Y r db) : ∀ k, k < 8000 → at1 db k = at1 Y (4 * (base L r % 20000) + k) := by
  intro k hk
  refine (h _).trans (congrArg Y (eq_pos_of _ ?_))
  refine (unit1_emb _ (k0_off2_inb L r) (pos 8000 k)).trans ?_
  rw [off2_val, pos_val hk]; rfl

theorem isBx (hX : IsLg L X r lb) (hY : IsAn L Y r db) (H : BoxesTo lb db bx 2000) : IsBx L X Y r bx := by
  intro x
  have e : ((bxV L r).view.emb x 0).val = 4 * base L r + (x 0).val := (unit1_emb _ (k0_off4_inb L r) x).trans (by rw [off4_val]; rfl)
  rw [at1_idx bx x, boxes_part hX.at hY.at (base_mod L r) H (x 0).isLt, ← e]
  rfl

theorem isSc (hX : IsLg L X r lb) (H : ScoresTo lb sc 2000) : IsSc L X r sc := by
  intro x
  have e : ((scV L r).view.emb x 0).val = base L r + (x 0).val := (unit1_emb _ (k0_off5_inb L r) x).trans (by rw [off5_val]; rfl)
  rw [at1_idx sc x, scores_part hX.at H (x 0).isLt, ← e]
  rfl

theorem isCl (hX : IsLg L X r lb) (H : ClassesTo lb cl 2000) : IsCl L X r cl := by
  intro x
  have e : ((clV L r).view.emb x 0).val = base L r + (x 0).val := (unit1_emb _ (k0_off5_inb L r) x).trans (by rw [off5_val]; rfl)
  rw [at1_idx cl x, classes_part hX.at H (x 0).isLt, ← e]
  rfl
end Parts

/-- Chunk `r`'s rows, once copied in, decoded. -/
theorem chunk_wp {X : Vec F S8000000 .f32} {Y : Vec F S80000 .f32} (r : Fin 5) (a : IVec S16 32) (v28 v31 v34 v36 c25 : BitVec 32)
    {Q : IVec S16 32 → sProp 𝕄} {lb : Vec F S50000 .f32} {db bx : Vec F S8000 .f32} {sc : Vec F S2000 .f32} {cl : Vec F S2000 .i32} :
    iprop((lbPts d L lb ∗ dbPts d L db ∗ bxPts d L bx ∗ scPts d L sc ∗ clPts d L cl) ∗ ⌜IsLg L X r lb ∧ IsAn L Y r db⌝
      ∗ (∀ lb db bx sc cl, (lbPts d L lb ∗ dbPts d L db ∗ bxPts d L bx ∗ scPts d L sc ∗ clPts d L cl
          ∗ ⌜IsBx L X Y r bx ∧ IsSc L X r sc ∧ IsCl L X r cl⌝) -∗ Q (fun l => count X (base L r) (l 0).val (a l) 125)))
      ⊢ WP d L (Scf.Loop.for k0_t1_loop k0_t1_ok a (k0_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 v28 v31 lanes k0_pay446 v34 v36 c25)) Q := by
  iintro ⟨⟨H8, H9, H10, H11, H12⟩, %h, Hk⟩
  iapply (loop_wp d L (f := lb) (g := db) a v28 v31 v34 v36 c25) $$ [H8 H9 H10 H11 H12]
  · unfold inv
    isplitl [H8]; · iexact H8
    isplitl [H9]; · iexact H9
    iexists _, _, _
    isplitl [H10]; · iexact H10
    isplitl [H11]; · iexact H11
    isplitl [H12]; · iexact H12
    ipureintro
    exact ⟨fun _ h => absurd h (Nat.not_lt_zero _), fun _ h => absurd h (Nat.not_lt_zero _), fun _ h => absurd h (Nat.not_lt_zero _)⟩
  iintro H
  unfold inv
  icases H with ⟨H8, H9, %bx', %sc', %cl', H10, H11, H12, %hP⟩
  have e : (fun l : S16.Idx => tally lb (l 0).val (a l) 125) = fun l => count X (base L r) (l 0).val (a l) 125 :=
    funext fun l => tally_eq h.1.at (l 0).isLt _ (le_refl _)
  rw [e]
  iapply Hk
  isplitl [H8]; · iexact H8
  isplitl [H9]; · iexact H9
  isplitl [H10]; · iexact H10
  isplitl [H11]; · iexact H11
  isplitl [H12]; · iexact H12
  ipureintro
  exact ⟨isBx h.1 h.2 hP.1, isSc h.1 hP.2.1, isCl h.1 hP.2.2⟩

end Tile

end Cert.Proof.KernelIdeal

end
-- ==== Proof.IBody.lean ====
/-
  The task's body run whole.
-/
module

public import proofs.«01_k».proof.Proof.ITile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ UU ℕ
local notation "a2" => (Memref.whole main_v0_scv)
local notation "a3" => (Memref.whole main_v1_scv)
local notation "a4" => (Memref.whole main_v2_0_scv)
local notation "a5" => (Memref.whole main_v2_1_scv)
local notation "a6" => (Memref.whole main_v2_2_scv)
local notation "a7" => (Memref.whole main_v2_3_scv)
local notation "a8" => (Memref.whole cc0_scratch0)
local notation "a9" => (Memref.whole cc0_scratch1)
local notation "a10" => (Memref.whole cc0_scratch2)
local notation "a11" => (Memref.whole cc0_scratch3)
local notation "a12" => (Memref.whole cc0_scratch4)
local notation "a13" => (Memref.whole cc0_scratch5)

section Task

variable (d : Dev nD) (L : grid0.Coords)

/-- The first part of the body computes its words and the lanes' numbers and does nothing else. -/
theorem part31_eq : ∃ v28 v31 v34 v36 : BitVec 32, k0_part31 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 = pure ⟨v28, v31, lanes, k0_pay446, v34, v36, 25#32⟩ := by
  rw [k0_part31_eq_skeleton]
  exact ⟨_, _, _, _, rfl⟩

/-- Where the tile's row of the counts lies. -/
theorem cnV_emb (x : S16.Idx) : (((cnV L).view.emb x) 0).val = 2 * (L 1).val + (L 0).val ∧ (((cnV L).view.emb x) 1).val = (x 0).val := by
  have e : (cnV L).view.emb x = (Rect.unit (s := S32x16) (k0_off10 L) S1x16.size (k0_off10_inb L)).emb (Shape.reshapeEquiv squeezes_S1x16_S16.numel_eq x) := rfl
  have e2 : Shape.reshapeEquiv (s := S1x16) squeezes_S1x16_S16.numel_eq x = Fin.cons ⟨0, Nat.one_pos⟩ x := Shape.reshapeEquiv_cons_one _ x
  rw [e, e2]
  constructor
  · show k0_off10 L 0 + 1 * 0 = _
    rw [k0_off10_eq]; rfl
  · show k0_off10 L 1 + 1 * (x 0).val = _
    rw [k0_off10_eq]; show 0 + _ = _; omega

/-- The tile's row of the counts array is what the five chunks tallied. -/
theorem cn_read (X : Vec F S8000000 .f32) (f13 : Vec F S16 .i32) (x : S16.Idx) :
    (cnV L).view.read (Elt F) (countA X) x
      = ReadAs.same.apply ((a13).view.read (Elt F) ((a13).view.writes (Elt F) f13 [⟨Rect.unit ![0] ![16] inb_S16_S16_0, fun l =>
          count X (base L 4) (l 0).val (count X (base L 3) (l 0).val (count X (base L 2) (l 0).val (count X (base L 1) (l 0).val
            (count X (base L 0) (l 0).val (k0_pay446 l) 125) 125) 125) 125) 125⟩])) x := by
  obtain ⟨e0, e1⟩ := cnV_emb L x
  have hR : ∀ y : S16.Idx, (Rect.unit (s := S16) ![0] ![16] inb_S16_S16_0).emb y = y := fun y => funext fun a => by
    match a with
    | 0 => exact Fin.ext (show 0 + 1 * (y 0).val = _ by omega)
  have h1 := View.read_writes_cons_emb (v := (a13).view) (f := f13) (Rect.unit (s := S16) ![0] ![16] inb_S16_S16_0) (fun l =>
          count X (base L 4) (l 0).val (count X (base L 3) (l 0).val (count X (base L 2) (l 0).val (count X (base L 1) (l 0).val
            (count X (base L 0) (l 0).val (k0_pay446 l) 125) 125) 125) 125) 125) [] x
  rw [hR x] at h1
  refine Eq.trans ?_ h1.symm
  show count X (10000 * (((cnV L).view.emb x) 0).val) (((cnV L).view.emb x) 1).val 0#32 625 = _
  rw [e0, e1]
  have hb : ∀ r : Fin 5, base L r = 10000 * (2 * (L 1).val + (L 0).val) + 16 * (125 * r.val) := fun r => by unfold base; omega
  rw [hb 0, hb 1, hb 2, hb 3, hb 4]
  show count X _ _ 0#32 (500 + 125) = _
  rw [count_add, show (500 : Nat) = 375 + 125 from rfl, count_add, show (375 : Nat) = 250 + 125 from rfl, count_add, show (250 : Nat) = 125 + 125 from rfl, count_add]
  rfl

theorem body_wp (O : CellTallies nD τ sig (HIx 1)) (W : Waits sig (HIx 1)) (hO : ∀ g, O g none = 0) (qx qy : PosShare TreeShare)
    (X : Vec F S8000000 .f32) (Y : Vec F S80000 .f32) (fb : Vec F S1280000 .f32) (fs : Vec F S320000 .f32) (fc : Vec F S320000 .i32) (fn : Vec F S32x16 .i32) :
   iprop(levAts (K (F := F)).L (K (F := F)).lev
     ∗ (lgP d L qx X ∗ anP d L qy Y)
     ∗ ((bxO d L 0 fb ∗ scO d L 0 fs ∗ clO d L 0 fc ∗ bxO d L 1 fb ∗ scO d L 1 fs ∗ clO d L 1 fc ∗ bxO d L 2 fb ∗ scO d L 2 fs ∗ clO d L 2 fc ∗ bxO d L 3 fb ∗ scO d L 3 fs ∗ clO d L 3 fc ∗ bxO d L 4 fb ∗ scO d L 4 fs ∗ clO d L 4 fc) ∗ cnO d L fn)
     ∗ ((∃ f, lbPts d L f) ∗ (∃ f, dbPts d L f) ∗ (∃ f, bxPts d L f) ∗ (∃ f, scPts d L f) ∗ (∃ f, clPts d L f) ∗ ∃ f, cbPts d L f)
     ∗ (sem0 d L cc0_scoped0.sem ∗ sem0 d L cc0_scoped1.sem ∗ sem0 d L cc0_scoped2.sem ∗ sem0 d L cc0_scoped3.sem ∗ sem0 d L cc0_scoped4.sem ∗ sem0 d L cc0_scoped5.sem ∗ sem0 d L cc0_scoped6.sem ∗ sem0 d L cc0_scoped7.sem ∗ sem0 d L cc0_scoped8.sem ∗ sem0 d L cc0_scoped9.sem ∗ sem0 d L cc0_scoped10.sem ∗ sem0 d L cc0_scoped11.sem ∗ sem0 d L cc0_scoped12.sem ∗ sem0 d L cc0_scoped13.sem ∗ sem0 d L cc0_scoped14.sem ∗ sem0 d L cc0_scoped15.sem ∗ sem0 d L cc0_scoped16.sem ∗ sem0 d L cc0_scoped17.sem ∗ sem0 d L cc0_scoped18.sem ∗ sem0 d L cc0_scoped19.sem ∗ sem0 d L cc0_scoped20.sem ∗ sem0 d L cc0_scoped21.sem ∗ sem0 d L cc0_scoped22.sem ∗ sem0 d L cc0_scoped23.sem ∗ sem0 d L cc0_scoped24.sem ∗ sem0 d L cc0_scoped25.sem)
     ∗ owes (thr d L) O W)
   ⊢ wp frame (wpE (defs₀ (F := F)) 𝒱₀ (thr d L) none) Set.univ (cc0__decode_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25)
      (fun _ => iprop((lgP d L qx X ∗ anP d L qy Y)
        ∗ ((bxO d L 0 (boxA X Y) ∗ scO d L 0 (scoreA X) ∗ clO d L 0 (classA X) ∗ bxO d L 1 (boxA X Y) ∗ scO d L 1 (scoreA X) ∗ clO d L 1 (classA X) ∗ bxO d L 2 (boxA X Y) ∗ scO d L 2 (scoreA X) ∗ clO d L 2 (classA X) ∗ bxO d L 3 (boxA X Y) ∗ scO d L 3 (scoreA X) ∗ clO d L 3 (classA X) ∗ bxO d L 4 (boxA X Y) ∗ scO d L 4 (scoreA X) ∗ clO d L 4 (classA X)) ∗ cnO d L (countA X))
        ∗ ((∃ f, lbPts d L f) ∗ (∃ f, dbPts d L f) ∗ (∃ f, bxPts d L f) ∗ (∃ f, scPts d L f) ∗ (∃ f, clPts d L f) ∗ ∃ f, cbPts d L f)
        ∗ (sem0 d L cc0_scoped0.sem ∗ sem0 d L cc0_scoped1.sem ∗ sem0 d L cc0_scoped2.sem ∗ sem0 d L cc0_scoped3.sem ∗ sem0 d L cc0_scoped4.sem ∗ sem0 d L cc0_scoped5.sem ∗ sem0 d L cc0_scoped6.sem ∗ sem0 d L cc0_scoped7.sem ∗ sem0 d L cc0_scoped8.sem ∗ sem0 d L cc0_scoped9.sem ∗ sem0 d L cc0_scoped10.sem ∗ sem0 d L cc0_scoped11.sem ∗ sem0 d L cc0_scoped12.sem ∗ sem0 d L cc0_scoped13.sem ∗ sem0 d L cc0_scoped14.sem ∗ sem0 d L cc0_scoped15.sem ∗ sem0 d L cc0_scoped16.sem ∗ sem0 d L cc0_scoped17.sem ∗ sem0 d L cc0_scoped18.sem ∗ sem0 d L cc0_scoped19.sem ∗ sem0 d L cc0_scoped20.sem ∗ sem0 d L cc0_scoped21.sem ∗ sem0 d L cc0_scoped22.sem ∗ sem0 d L cc0_scoped23.sem ∗ sem0 d L cc0_scoped24.sem ∗ sem0 d L cc0_scoped25.sem)
        ∗ ∃ W', ⌜∀ p ∈ W', p ∈ W ∨ p.2 = none⌝ ∗ owes (thr d L) O W')) := by
  iintro ⟨#Hlv, ⟨HX, HY⟩, ⟨⟨B0, S0, C0, B1, S1, C1, B2, S2, C2, B3, S3, C3, B4, S4, C4⟩, N⟩, ⟨⟨%f8, H8⟩, ⟨%f9, H9⟩, ⟨%f10, H10⟩, ⟨%f11, H11⟩, ⟨%f12, H12⟩, %f13, H13⟩, ⟨M0, M1, M2, M3, M4, M5, M6, M7, M8, M9, M10, M11, M12, M13, M14, M15, M16, M17, M18, M19, M20, M21, M22, M23, M24, M25⟩, HO⟩
  ihave Hmw := ((K (F := F)).mayWaits_none (thr := thr d L) hO) $$ Hlv
  obtain ⟨v28, v31, v34, v36, e31⟩ := part31_eq (F := F) L
  rw [cc0__decode_body_eq_skeleton]
  unfold cc0__decode_body_skel
  iapply (bind_wp d L)
  rw [e31]
  iapply (ret_wp d L rfl)
  dsimp only
  iapply (bind_wp d L)
  rw [k0_part32_eq_skeleton]
  unfold k0_part32_skel WP
  sl_exec
  iapply (bind_wp d L)
  iapply (chunk_wp d L (X := X) (Y := Y) 0)
  isplitl [H8 H9 H10 H11 H12]
  · isplitl [H8]; · iexact H8
    isplitl [H9]; · iexact H9
    isplitl [H10]; · iexact H10
    isplitl [H11]; · iexact H11
    iexact H12
  isplitr
  · ipureintro
    exact ⟨IsLg.intro L (View.write_whole_univ cc0_scratch0 _ _) rfl, IsAn.intro L (View.write_whole_univ cc0_scratch1 _ _) rfl⟩
  ihave HX := (lgP_self d L qx X) $$ HX
  ihave HY := (anP_self d L qy Y) $$ HY
  iintro %lb0 %db0 %bx0 %sc0 %cl0 ⟨H8, H9, H10, H11, H12, %hP0⟩
  dsimp only
  unfold WP
  sl_exec
  iapply (bind_wp d L)
  rw [loop2_eq]
  iapply (chunk_wp d L (X := X) (Y := Y) 1)
  isplitl [H8 H9 H10 H11 H12]
  · isplitl [H8]; · iexact H8
    isplitl [H9]; · iexact H9
    isplitl [H10]; · iexact H10
    isplitl [H11]; · iexact H11
    iexact H12
  isplitr
  · ipureintro
    exact ⟨IsLg.intro L (View.write_whole_univ cc0_scratch0 _ _) rfl, IsAn.intro L (View.write_whole_univ cc0_scratch1 _ _) rfl⟩
  ihave HX := (lgP_self d L qx X) $$ HX
  ihave HY := (anP_self d L qy Y) $$ HY
  iintro %lb1 %db1 %bx1 %sc1 %cl1 ⟨H8, H9, H10, H11, H12, %hP1⟩
  dsimp only
  unfold WP
  sl_exec
  iapply (bind_wp d L)
  rw [loop3_eq]
  iapply (chunk_wp d L (X := X) (Y := Y) 2)
  isplitl [H8 H9 H10 H11 H12]
  · isplitl [H8]; · iexact H8
    isplitl [H9]; · iexact H9
    isplitl [H10]; · iexact H10
    isplitl [H11]; · iexact H11
    iexact H12
  isplitr
  · ipureintro
    exact ⟨IsLg.intro L (View.write_whole_univ cc0_scratch0 _ _) rfl, IsAn.intro L (View.write_whole_univ cc0_scratch1 _ _) rfl⟩
  ihave HX := (lgP_self d L qx X) $$ HX
  ihave HY := (anP_self d L qy Y) $$ HY
  iintro %lb2 %db2 %bx2 %sc2 %cl2 ⟨H8, H9, H10, H11, H12, %hP2⟩
  dsimp only
  unfold WP
  sl_exec
  iapply (bind_wp d L)
  rw [loop4_eq]
  iapply (chunk_wp d L (X := X) (Y := Y) 3)
  isplitl [H8 H9 H10 H11 H12]
  · isplitl [H8]; · iexact H8
    isplitl [H9]; · iexact H9
    isplitl [H10]; · iexact H10
    isplitl [H11]; · iexact H11
    iexact H12
  isplitr
  · ipureintro
    exact ⟨IsLg.intro L (View.write_whole_univ cc0_scratch0 _ _) rfl, IsAn.intro L (View.write_whole_univ cc0_scratch1 _ _) rfl⟩
  ihave HX := (lgP_self d L qx X) $$ HX
  ihave HY := (anP_self d L qy Y) $$ HY
  iintro %lb3 %db3 %bx3 %sc3 %cl3 ⟨H8, H9, H10, H11, H12, %hP3⟩
  dsimp only
  unfold WP
  sl_exec
  iapply (bind_wp d L)
  rw [loop5_eq]
  iapply (chunk_wp d L (X := X) (Y := Y) 4)
  isplitl [H8 H9 H10 H11 H12]
  · isplitl [H8]; · iexact H8
    isplitl [H9]; · iexact H9
    isplitl [H10]; · iexact H10
    isplitl [H11]; · iexact H11
    iexact H12
  isplitr
  · ipureintro
    exact ⟨IsLg.intro L (View.write_whole_univ cc0_scratch0 _ _) rfl, IsAn.intro L (View.write_whole_univ cc0_scratch1 _ _) rfl⟩
  ihave HX := (lgP_self d L qx X) $$ HX
  ihave HY := (anP_self d L qy Y) $$ HY
  iintro %lb4 %db4 %bx4 %sc4 %cl4 ⟨H8, H9, H10, H11, H12, %hP4⟩
  dsimp only
  unfold WP
  sl_exec
  iapply (ret_wp d L rfl)
  isplitl [HX HY]
  · isplitl [HX]; · iexact HX
    iexact HY
  isplitl [B0 S0 C0 B1 S1 C1 B2 S2 C2 B3 S3 C3 B4 S4 C4 N]
  · isplitr [N]
    · isplitl [B0]; · iapply (Entails.of_eq (land_eq d L (bxV L 0).view hP0.1)); iexact B0
      isplitl [S0]; · iapply (Entails.of_eq (land_eq d L (scV L 0).view hP0.2.1)); iexact S0
      isplitl [C0]; · iapply (Entails.of_eq (land_eq d L (clV L 0).view hP0.2.2)); iexact C0
      isplitl [B1]; · iapply (Entails.of_eq (land_eq d L (bxV L 1).view hP1.1)); iexact B1
      isplitl [S1]; · iapply (Entails.of_eq (land_eq d L (scV L 1).view hP1.2.1)); iexact S1
      isplitl [C1]; · iapply (Entails.of_eq (land_eq d L (clV L 1).view hP1.2.2)); iexact C1
      isplitl [B2]; · iapply (Entails.of_eq (land_eq d L (bxV L 2).view hP2.1)); iexact B2
      isplitl [S2]; · iapply (Entails.of_eq (land_eq d L (scV L 2).view hP2.2.1)); iexact S2
      isplitl [C2]; · iapply (Entails.of_eq (land_eq d L (clV L 2).view hP2.2.2)); iexact C2
      isplitl [B3]; · iapply (Entails.of_eq (land_eq d L (bxV L 3).view hP3.1)); iexact B3
      isplitl [S3]; · iapply (Entails.of_eq (land_eq d L (scV L 3).view hP3.2.1)); iexact S3
      isplitl [C3]; · iapply (Entails.of_eq (land_eq d L (clV L 3).view hP3.2.2)); iexact C3
      isplitl [B4]; · iapply (Entails.of_eq (land_eq d L (bxV L 4).view hP4.1)); iexact B4
      isplitl [S4]; · iapply (Entails.of_eq (land_eq d L (scV L 4).view hP4.2.1)); iexact S4
      iapply (Entails.of_eq (land_eq d L (clV L 4).view hP4.2.2)); iexact C4
    iapply (Entails.of_eq (land_eq d L (cnV L).view (cn_read L X f13))); iexact N
  isplitl [H8 H9 H10 H11 H12 H13]
  · isplitl [H8]; · iexists _; iexact H8
    isplitl [H9]; · iexists _; iexact H9
    isplitl [H10]; · iexists _; iexact H10
    isplitl [H11]; · iexists _; iexact H11
    isplitl [H12]; · iexists _; iexact H12
    iexists _; iexact H13
  isplitl [M0 M1 M2 M3 M4 M5 M6 M7 M8 M9 M10 M11 M12 M13 M14 M15 M16 M17 M18 M19 M20 M21 M22 M23 M24 M25]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    isplitl [M9]; · iexact M9
    isplitl [M10]; · iexact M10
    isplitl [M11]; · iexact M11
    isplitl [M12]; · iexact M12
    isplitl [M13]; · iexact M13
    isplitl [M14]; · iexact M14
    isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    isplitl [M23]; · iexact M23
    isplitl [M24]; · iexact M24
    iexact M25
  iexists _
  isplitr
  pick_goal 2
  · iexact HO
  ipureintro
  intro p hp
  repeat
    rcases Finset.mem_insert.mp hp with rfl | hp
    · exact Or.inr rfl
  exact Or.inl hp

end Task

end Cert.Proof.KernelIdeal

end
-- ==== Proof.IPieces.lean ====
/-
  How the call's arrays are dealt among the 32 tiles: the tables in shares, the results in windows.
-/
module

public import proofs.«01_k».proof.Proof.IBody

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ UU ℕ
local notation "a2" => (Memref.whole main_v0_scv)
local notation "a3" => (Memref.whole main_v1_scv)
local notation "a4" => (Memref.whole main_v2_0_scv)
local notation "a5" => (Memref.whole main_v2_1_scv)
local notation "a6" => (Memref.whole main_v2_2_scv)
local notation "a7" => (Memref.whole main_v2_3_scv)
local notation "a8" => (Memref.whole cc0_scratch0)
local notation "a9" => (Memref.whole cc0_scratch1)
local notation "a10" => (Memref.whole cc0_scratch2)
local notation "a11" => (Memref.whole cc0_scratch3)
local notation "a12" => (Memref.whole cc0_scratch4)
local notation "a13" => (Memref.whole cc0_scratch5)

/-! ## The windows as sets of positions -/

/-- The tile at SparseCore `c` and subcore `s`. -/
abbrev coords (c : Fin 2) (s : Fin 16) : grid0.Coords :=
  fun | 0 => c | 1 => s | ⟨_ + 2, h⟩ => absurd h (Nat.not_lt.2 (Nat.le_add_left _ _))

section Geometry
variable (L : grid0.Coords) (r : Fin 5)

theorem mem_bx {i : S1280000.Idx} : i ∈ (bxV L r).view.set ↔ 4 * base L r ≤ (i 0).val ∧ (i 0).val < 4 * base L r + 8000 := by
  show i ∈ ((View.whole main_v2_0_scv).slice (Rect.unit (s := S1280000) (k0_off4 L (wd r)) S8000.size (k0_off4_inb L r))).set ↔ _
  rw [View.set_slice_whole, Rect.mem_set_unit]
  refine Fin.forall_fin_one.trans ?_
  rw [off4_val]; rfl
theorem mem_sc {i : S320000.Idx} : i ∈ (scV L r).view.set ↔ base L r ≤ (i 0).val ∧ (i 0).val < base L r + 2000 := by
  show i ∈ ((View.whole main_v2_1_scv).slice (Rect.unit (s := S320000) (k0_off5 L (wd r)) S2000.size (k0_off5_inb L r))).set ↔ _
  rw [View.set_slice_whole, Rect.mem_set_unit]
  refine Fin.forall_fin_one.trans ?_
  rw [off5_val]; rfl
theorem mem_cl {i : S320000.Idx} : i ∈ (clV L r).view.set ↔ base L r ≤ (i 0).val ∧ (i 0).val < base L r + 2000 := by
  show i ∈ ((View.whole main_v2_2_scv).slice (Rect.unit (s := S320000) (k0_off5 L (wd r)) S2000.size (k0_off5_inb L r))).set ↔ _
  rw [View.set_slice_whole, Rect.mem_set_unit]
  refine Fin.forall_fin_one.trans ?_
  rw [off5_val]; rfl
theorem mem_cn {i : S32x16.Idx} : i ∈ (cnV L).view.set ↔ (i 0).val = 2 * (L 1).val + (L 0).val := by
  show i ∈ (((View.whole main_v2_3_scv).slice (Rect.unit (s := S32x16) (k0_off10 L) S1x16.size (k0_off10_inb L))).reshape S16 squeezes_S1x16_S16.numel_eq).set ↔ _
  rw [View.set_reshape, View.set_slice_whole, Rect.mem_set_unit]
  refine Fin.forall_fin_two.trans ?_
  rw [k0_off10_eq]
  show ((2 * (L 1).val + (L 0).val ≤ (i 0).val ∧ (i 0).val < 2 * (L 1).val + (L 0).val + 1) ∧ (0 ≤ (i 1).val ∧ (i 1).val < 0 + 16)) ↔ _
  have := (i 1).isLt
  have h16 : (i 1).val < 16 := this
  omega
end Geometry

theorem base_coords (c : Fin 2) (s : Fin 16) (r : Fin 5) : base (coords c s) r = 2000 * (5 * (2 * s.val + c.val) + r.val) := by
  show 10000 * (2 * s.val + c.val) + 2000 * r.val = _
  omega

theorem triple_ne {t t' : Fin 2 × Fin 16 × Fin 5} (h : t ≠ t') :
    5 * (2 * t.2.1.val + t.1.val) + t.2.2.val ≠ 5 * (2 * t'.2.1.val + t'.1.val) + t'.2.2.val := by
  obtain ⟨⟨c, hc⟩, ⟨s, hs⟩, ⟨r, hr⟩⟩ := t
  obtain ⟨⟨c', hc'⟩, ⟨s', hs'⟩, ⟨r', hr'⟩⟩ := t'
  intro e
  dsimp only at e
  have h1 : c = c' := by omega
  have h2 : s = s' := by omega
  have h3 : r = r' := by omega
  subst h1 h2 h3
  exact h rfl

/-- A buffer whose positions the 2 × 16 × 5 windows cut into runs of `n` held whole is its windows held apart. -/
theorem split3 {ℓ : Loc nD τ sig} (A : Fin 2 → Fin 16 → Fin 5 → Finset (Idx ℓ)) (p : Idx ℓ → Nat) (n : Nat) (hn : 0 < n)
    (hA : ∀ c s r i, i ∈ A c s r ↔ n * (5 * (2 * s.val + c.val) + r.val) ≤ p i ∧ p i < n * (5 * (2 * s.val + c.val) + r.val) + n)
    (hp : ∀ i, p i < n * 160) (f : Buf (Elt F) ℓ) :
    (ℓ ↦{fullShare} f : sProp 𝕄) = bigSep Finset.univ fun c => bigSep Finset.univ fun s => bigSep Finset.univ fun r => ℓ ↦[A c s r]{fullShare} f := by
  have hd : ∀ t ∈ (Finset.univ : Finset (Fin 2 × Fin 16 × Fin 5)), ∀ t' ∈ (Finset.univ : Finset (Fin 2 × Fin 16 × Fin 5)), t ≠ t' →
      Disjoint (A t.1 t.2.1 t.2.2) (A t'.1 t'.2.1 t'.2.2) := fun t _ t' _ h => Finset.disjoint_left.mpr fun i hi hi' => by
    obtain ⟨u1, u2⟩ := (hA _ _ _ _).mp hi
    obtain ⟨b1, b2⟩ := (hA _ _ _ _).mp hi'
    have e1 := Nat.div_eq_of_lt_le (m := p i) (n := n) (k := 5 * (2 * t.2.1.val + t.1.val) + t.2.2.val) (by rw [Nat.mul_comm]; exact u1) (by rw [Nat.mul_comm, Nat.mul_succ]; exact u2)
    have e2 := Nat.div_eq_of_lt_le (m := p i) (n := n) (k := 5 * (2 * t'.2.1.val + t'.1.val) + t'.2.2.val) (by rw [Nat.mul_comm]; exact b1) (by rw [Nat.mul_comm, Nat.mul_succ]; exact b2)
    exact triple_ne h (e1.symm.trans e2)
  have hc : (Finset.univ : Finset (Fin 2 × Fin 16 × Fin 5)).biUnion (fun t => A t.1 t.2.1 t.2.2) = Finset.univ := by
    refine Finset.eq_univ_of_forall fun i => Finset.mem_biUnion.mpr ?_
    have hk : p i / n < 160 := Nat.div_lt_of_lt_mul (hp i)
    refine ⟨(⟨p i / n / 5 % 2, by omega⟩, ⟨p i / n / 10, by omega⟩, ⟨p i / n % 5, by omega⟩), Finset.mem_univ _, (hA _ _ _ _).mpr ?_⟩
    have e : 5 * (2 * (p i / n / 10) + p i / n / 5 % 2) + p i / n % 5 = p i / n := by omega
    dsimp only
    rw [e]
    exact ⟨Nat.mul_div_le _ _, Nat.lt_mul_div_succ _ hn⟩
  rw [show (ℓ ↦{fullShare} f : sProp 𝕄) = ℓ ↦[(Finset.univ : Finset (Fin 2 × Fin 16 × Fin 5)).biUnion fun t => A t.1 t.2.1 t.2.2]{fullShare} f by rw [hc],
    pointsTo_biUnion _ _ hd, bigSep_univ_prod]
  exact bigSep_congr fun c _ => bigSep_univ_prod _

/-- The same for a buffer of 32 rows, a row a tile. -/
theorem split2 {ℓ : Loc nD τ sig} (A : Fin 2 → Fin 16 → Finset (Idx ℓ)) (p : Idx ℓ → Nat)
    (hA : ∀ c s i, i ∈ A c s ↔ p i = 2 * s.val + c.val) (hp : ∀ i, p i < 32) (f : Buf (Elt F) ℓ) :
    (ℓ ↦{fullShare} f : sProp 𝕄) = bigSep Finset.univ fun c => bigSep Finset.univ fun s => ℓ ↦[A c s]{fullShare} f := by
  have hd : ∀ t ∈ (Finset.univ : Finset (Fin 2 × Fin 16)), ∀ t' ∈ (Finset.univ : Finset (Fin 2 × Fin 16)), t ≠ t' →
      Disjoint (A t.1 t.2) (A t'.1 t'.2) := fun t _ t' _ h => Finset.disjoint_left.mpr fun i hi hi' => by
    have e := ((hA _ _ _).mp hi).symm.trans ((hA _ _ _).mp hi')
    have h1 := t.1.isLt; have h2 := t'.1.isLt
    exact h (Prod.ext (Fin.ext (by omega)) (Fin.ext (by omega)))
  have hc : (Finset.univ : Finset (Fin 2 × Fin 16)).biUnion (fun t => A t.1 t.2) = Finset.univ := by
    refine Finset.eq_univ_of_forall fun i => Finset.mem_biUnion.mpr ?_
    have hk := hp i
    refine ⟨(⟨p i % 2, by omega⟩, ⟨p i / 2, by omega⟩), Finset.mem_univ _, (hA _ _ _).mpr ?_⟩
    dsimp only; omega
  rw [show (ℓ ↦{fullShare} f : sProp 𝕄) = ℓ ↦[(Finset.univ : Finset (Fin 2 × Fin 16)).biUnion fun t => A t.1 t.2]{fullShare} f by rw [hc],
    pointsTo_biUnion _ _ hd, bigSep_univ_prod]

/-- Tile `(c, s)`'s share of a table that all the tiles read. -/
abbrev qs (c : Fin 2) (s : Fin 16) : PosShare TreeShare := Transfers.dealOf (Transfers.dealOf fullShare Finset.univ c) Finset.univ s

theorem splitT {ℓ : Loc nD τ sig} (f : Buf (Elt F) ℓ) :
    (ℓ ↦{fullShare} f : sProp 𝕄) = bigSep Finset.univ fun c : Fin 2 => bigSep Finset.univ fun s : Fin 16 => ℓ ↦{qs c s} f :=
  (Transfers.pointsTo_deal (Finset.univ : Finset (Fin 2)) Finset.univ_nonempty fullShare).trans
    (bigSep_congr fun c _ => Transfers.pointsTo_deal (Finset.univ : Finset (Fin 16)) Finset.univ_nonempty _)

theorem fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-! ## What the call hands a tile, and the whole -/

/-- The tables at the tile's share and its own windows of the four results. -/
def tileRes (d : Dev nD) (L : grid0.Coords) (q : PosShare TreeShare) (X : Vec F S8000000 .f32) (Y : Vec F S80000 .f32)
    (fb : Vec F S1280000 .f32) (fs : Vec F S320000 .f32) (fc : Vec F S320000 .i32) (fn : Vec F S32x16 .i32) : sProp 𝕄 :=
  iprop((lgP d L q X ∗ anP d L q Y) ∗ ((bxO d L 0 fb ∗ scO d L 0 fs ∗ clO d L 0 fc ∗ bxO d L 1 fb ∗ scO d L 1 fs ∗ clO d L 1 fc ∗ bxO d L 2 fb ∗ scO d L 2 fs ∗ clO d L 2 fc ∗ bxO d L 3 fb ∗ scO d L 3 fs ∗ clO d L 3 fc ∗ bxO d L 4 fb ∗ scO d L 4 fs ∗ clO d L 4 fc) ∗ cnO d L fn))

set_option synthInstance.maxHeartbeats 400000 in
instance tileRes_storable (d : Dev nD) (L : grid0.Coords) (q : PosShare TreeShare) (X : Vec F S8000000 .f32) (Y : Vec F S80000 .f32)
    (fb : Vec F S1280000 .f32) (fs : Vec F S320000 .f32) (fc : Vec F S320000 .i32) (fn : Vec F S32x16 .i32) :
    BI.Storable (upEmb : UEmb _ 𝕄) (tileRes d L q X Y fb fs fc fn) := by
  unfold tileRes; infer_instance

abbrev tc (d : Dev nD) : Thread nD τ := SparseCore.T d

/-- The whole arrays: the tables and the four results. -/
def wholeRes (d : Dev nD) (X : Vec F S8000000 .f32) (Y : Vec F S80000 .f32)
    (fb : Vec F S1280000 .f32) (fs : Vec F S320000 .f32) (fc : Vec F S320000 .i32) (fn : Vec F S32x16 .i32) : sProp 𝕄 :=
  iprop((((tc d).loc main_v0 ↦{fullShare} X) ∗ ((tc d).loc main_v1 ↦{fullShare} Y))
    ∗ ((((tc d).loc main_v2_0 ↦{fullShare} fb) ∗ ((tc d).loc main_v2_1 ↦{fullShare} fs) ∗ ((tc d).loc main_v2_2 ↦{fullShare} fc))
      ∗ ((tc d).loc main_v2_3 ↦{fullShare} fn)))

theorem sepA (P Q R : sProp 𝕄) : iprop((P ∗ Q) ∗ R) = iprop(P ∗ Q ∗ R) := Entails.antisymm sep_assoc sep_assoc'

theorem tileRes_eq (d : Dev nD) (L : grid0.Coords) (q : PosShare TreeShare) (X : Vec F S8000000 .f32) (Y : Vec F S80000 .f32)
    (fb : Vec F S1280000 .f32) (fs : Vec F S320000 .f32) (fc : Vec F S320000 .i32) (fn : Vec F S32x16 .i32) :
    tileRes d L q X Y fb fs fc fn = iprop((lgP d L q X ∗ anP d L q Y)
      ∗ (((bigSep Finset.univ fun r => bxO d L r fb) ∗ (bigSep Finset.univ fun r => scO d L r fs) ∗ (bigSep Finset.univ fun r => clO d L r fc)) ∗ cnO d L fn)) := by
  rw [← bigSep_sep', ← bigSep_sep', fin5]
  unfold tileRes
  simp only [sepA]

/-- The whole arrays are the tiles' parts of them. -/
theorem whole_eq (d : Dev nD) (X : Vec F S8000000 .f32) (Y : Vec F S80000 .f32)
    (fb : Vec F S1280000 .f32) (fs : Vec F S320000 .f32) (fc : Vec F S320000 .i32) (fn : Vec F S32x16 .i32) :
    wholeRes d X Y fb fs fc fn = bigSep Finset.univ fun c : Fin 2 => bigSep Finset.univ fun s : Fin 16 => tileRes d (coords c s) (qs c s) X Y fb fs fc fn := by
  simp only [tileRes_eq, bigSep_sep']
  unfold wholeRes
  have hX := splitT (F := F) (ℓ := (tc d).loc main_v0) X
  have hY := splitT (F := F) (ℓ := (tc d).loc main_v1) Y
  have hb := split3 (F := F) (ℓ := (tc d).loc main_v2_0) (fun c s r => (bxV (coords c s) r).view.set) (fun i => (i 0).val) 8000 (by omega)
    (fun c s r i => (mem_bx (coords c s) r).trans (by rw [base_coords]; omega)) (fun i => (i 0).isLt) fb
  have hs := split3 (F := F) (ℓ := (tc d).loc main_v2_1) (fun c s r => (scV (coords c s) r).view.set) (fun i => (i 0).val) 2000 (by omega)
    (fun c s r i => (mem_sc (coords c s) r).trans (by rw [base_coords])) (fun i => (i 0).isLt) fs
  have hc := split3 (F := F) (ℓ := (tc d).loc main_v2_2) (fun c s r => (clV (coords c s) r).view.set) (fun i => (i 0).val) 2000 (by omega)
    (fun c s r i => (mem_cl (coords c s) r).trans (by rw [base_coords])) (fun i => (i 0).isLt) fc
  have hn := split2 (F := F) (ℓ := (tc d).loc main_v2_3) (fun c s => (cnV (coords c s)).view.set) (fun i => (i 0).val)
    (fun c s i => mem_cn (coords c s)) (fun i => (i 0).isLt) fn
  rw [hX, hY, hb, hs, hc, hn]

end Cert.Proof.KernelIdeal

end
-- ==== Proof.ILaunch.lean ====
/-
  The launch: the task's obligation, the deal of the arrays and @main.
-/
module

public import Idealize.ShloMosaic.Lib.SparseCore.Quiescent
public import Idealize.ShloMosaic.Lib.StableHlo.RunRead
public import proofs.«01_k».proof.Proof.IPieces

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Row

variable {F : FTy → Type} [FloatOps F]

local notation "𝕄" => MT nD τ sig (HIx 1) (Elt F) ℕ UU ℕ
local notation "a2" => (Memref.whole main_v0_scv)
local notation "a3" => (Memref.whole main_v1_scv)
local notation "a4" => (Memref.whole main_v2_0_scv)
local notation "a5" => (Memref.whole main_v2_1_scv)
local notation "a6" => (Memref.whole main_v2_2_scv)
local notation "a7" => (Memref.whole main_v2_3_scv)
local notation "a8" => (Memref.whole cc0_scratch0)
local notation "a9" => (Memref.whole cc0_scratch1)
local notation "a10" => (Memref.whole cc0_scratch2)
local notation "a11" => (Memref.whole cc0_scratch3)
local notation "a12" => (Memref.whole cc0_scratch4)
local notation "a13" => (Memref.whole cc0_scratch5)

open Idealize.ShloMosaic.StableHlo (held seq wp_seq after)

/-! ## A task among the launch's -/

omit [FloatOps F] in
/-- The members of a list without repetition taken out of a separating conjunction, one by one. -/
theorem pull {I : Type} [DecidableEq I] (Φ : I → sProp 𝕄) : ∀ (l : List I) (S : Finset I), l.Nodup → (∀ a ∈ l, a ∈ S) →
    bigSep S Φ = l.foldr (fun a p => iprop(Φ a ∗ p)) (bigSep (l.foldl Finset.erase S) Φ)
  | [], _, _, _ => rfl
  | a :: l, S, hn, hs => by
    obtain ⟨h1, h2⟩ := List.nodup_cons.mp hn
    rw [SparseCore.bigSep_erase' (hs a List.mem_cons_self), pull Φ l (S.erase a) h2 fun b hb =>
      Finset.mem_erase.mpr ⟨fun e => h1 (e ▸ hb), hs b (List.mem_cons_of_mem _ hb)⟩]
    rfl

section Task
variable (d : Dev nD) (L : grid0.Coords)

/-- The task's transfer semaphores. -/
def semList : List (GSem nD τ sig) := [(thr d L, .dma cc0_scoped0.sem), (thr d L, .dma cc0_scoped1.sem), (thr d L, .dma cc0_scoped2.sem), (thr d L, .dma cc0_scoped3.sem), (thr d L, .dma cc0_scoped4.sem), (thr d L, .dma cc0_scoped5.sem), (thr d L, .dma cc0_scoped6.sem), (thr d L, .dma cc0_scoped7.sem), (thr d L, .dma cc0_scoped8.sem), (thr d L, .dma cc0_scoped9.sem), (thr d L, .dma cc0_scoped10.sem), (thr d L, .dma cc0_scoped11.sem), (thr d L, .dma cc0_scoped12.sem), (thr d L, .dma cc0_scoped13.sem), (thr d L, .dma cc0_scoped14.sem), (thr d L, .dma cc0_scoped15.sem), (thr d L, .dma cc0_scoped16.sem), (thr d L, .dma cc0_scoped17.sem), (thr d L, .dma cc0_scoped18.sem), (thr d L, .dma cc0_scoped19.sem), (thr d L, .dma cc0_scoped20.sem), (thr d L, .dma cc0_scoped21.sem), (thr d L, .dma cc0_scoped22.sem), (thr d L, .dma cc0_scoped23.sem), (thr d L, .dma cc0_scoped24.sem), (thr d L, .dma cc0_scoped25.sem)]
/-- The task's scratch buffers. -/
def bufList : List (DevRef τ sig) := ([cc0_scratch0, cc0_scratch1, cc0_scratch2, cc0_scratch3, cc0_scratch4, cc0_scratch5] : List (Ref sig .scVector)).map (thr d L).2.devRef

theorem semList_nodup : (semList d L).Nodup := by
  have : (([.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem, .dma cc0_scoped23.sem, .dma cc0_scoped24.sem, .dma cc0_scoped25.sem] : List (SemLoc sig)).map fun s => ((thr d L, s) : GSem nD τ sig)).Nodup :=
    List.Nodup.map (fun a b e => (Prod.mk.inj e).2) (by decide)
  exact this
theorem semList_own : ∀ g ∈ semList d L, g ∈ ownCells (thr d L) := by
  have h : ∀ s ∈ ([.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem, .dma cc0_scoped23.sem, .dma cc0_scoped24.sem, .dma cc0_scoped25.sem] : List (SemLoc sig)), s.isScoped .scVector = true := by decide
  have h2 : ∀ g ∈ ([.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem, .dma cc0_scoped12.sem, .dma cc0_scoped13.sem, .dma cc0_scoped14.sem, .dma cc0_scoped15.sem, .dma cc0_scoped16.sem, .dma cc0_scoped17.sem, .dma cc0_scoped18.sem, .dma cc0_scoped19.sem, .dma cc0_scoped20.sem, .dma cc0_scoped21.sem, .dma cc0_scoped22.sem, .dma cc0_scoped23.sem, .dma cc0_scoped24.sem, .dma cc0_scoped25.sem] : List (SemLoc sig)).map (fun s => ((thr d L, s) : GSem nD τ sig)), g ∈ ownCells (thr d L) := fun g hg => by
    obtain ⟨s, hs, rfl⟩ := List.mem_map.mp hg
    exact mem_ownCells.mpr ⟨rfl, h s hs⟩
  exact h2
theorem bufList_nodup : (bufList d L).Nodup :=
  List.Nodup.map (Proc.devRef_injective _) (show ([cc0_scratch0, cc0_scratch1, cc0_scratch2, cc0_scratch3, cc0_scratch4, cc0_scratch5] : List (Ref sig .scVector)).Nodup by decide)
theorem bufList_own : ∀ b ∈ bufList d L, b ∈ ownRefs (thr d L).2 := by
  have h : ∀ b ∈ ([cc0_scratch0, cc0_scratch1, cc0_scratch2, cc0_scratch3, cc0_scratch4, cc0_scratch5] : List (Ref sig .scVector)),
      ((thr d L).2.devRef b).owner = .proc (thr d L).2 := by
    intro b hb
    simp only [List.mem_cons, List.not_mem_nil, _root_.or_false] at hb
    rcases hb with rfl | rfl | rfl | rfl | rfl | rfl <;> rfl
  intro b hb
  obtain ⟨s, hs, rfl⟩ := List.mem_map.mp hb
  exact SparseCore.Cfg.mem_ownRefs_of_owner (h s hs)

omit [FloatOps F] in
theorem sems_eq : (ownSems0 (thr d L) : sProp 𝕄) = (semList d L).foldr (fun g p => iprop(semVal g 0 ∗ p)) (bigSep ((semList d L).foldl Finset.erase (ownCells (thr d L))) fun g => semVal g 0) :=
  pull (fun g => semVal g 0) (semList d L) (ownCells (thr d L)) (semList_nodup d L) (semList_own d L)

omit [FloatOps F] in
theorem bufs_eq : (ownBufs (thr d L) : sProp 𝕄) = (bufList d L).foldr (fun b p => iprop((∃ f, (((thr d L).1, b) : Loc nD τ sig) ↦{fullShare} f) ∗ p))
    (bigSep ((bufList d L).foldl Finset.erase (ownRefs (thr d L).2)) fun b => iprop(∃ f, (((thr d L).1, b) : Loc nD τ sig) ↦{fullShare} f)) :=
  pull (fun b => iprop(∃ f, (((thr d L).1, b) : Loc nD τ sig) ↦{fullShare} f)) (bufList d L) (ownRefs (thr d L).2) (bufList_nodup d L) (bufList_own d L)

/-- The rest of the subcore's semaphores and buffers, which the task leaves alone. -/
def restSems : sProp 𝕄 := bigSep ((semList d L).foldl Finset.erase (ownCells (thr d L))) fun g => semVal g 0
def restBufs : sProp 𝕄 := bigSep ((bufList d L).foldl Finset.erase (ownRefs (thr d L).2)) fun b => iprop(∃ f, (((thr d L).1, b) : Loc nD τ sig) ↦{fullShare} f)

/-- The task's six scratch buffers, and its transfer semaphores at zero. -/
def scr : sProp 𝕄 := iprop((∃ f, lbPts d L f) ∗ (∃ f, dbPts d L f) ∗ (∃ f, bxPts d L f) ∗ (∃ f, scPts d L f) ∗ (∃ f, clPts d L f) ∗ (∃ f, cbPts d L f))
def sems : sProp 𝕄 := iprop(sem0 d L cc0_scoped0.sem ∗ sem0 d L cc0_scoped1.sem ∗ sem0 d L cc0_scoped2.sem ∗ sem0 d L cc0_scoped3.sem ∗ sem0 d L cc0_scoped4.sem ∗ sem0 d L cc0_scoped5.sem ∗ sem0 d L cc0_scoped6.sem ∗ sem0 d L cc0_scoped7.sem ∗ sem0 d L cc0_scoped8.sem ∗ sem0 d L cc0_scoped9.sem ∗ sem0 d L cc0_scoped10.sem ∗ sem0 d L cc0_scoped11.sem ∗ sem0 d L cc0_scoped12.sem ∗ sem0 d L cc0_scoped13.sem ∗ sem0 d L cc0_scoped14.sem ∗ sem0 d L cc0_scoped15.sem ∗ sem0 d L cc0_scoped16.sem ∗ sem0 d L cc0_scoped17.sem ∗ sem0 d L cc0_scoped18.sem ∗ sem0 d L cc0_scoped19.sem ∗ sem0 d L cc0_scoped20.sem ∗ sem0 d L cc0_scoped21.sem ∗ sem0 d L cc0_scoped22.sem ∗ sem0 d L cc0_scoped23.sem ∗ sem0 d L cc0_scoped24.sem ∗ sem0 d L cc0_scoped25.sem)

theorem sems_split : (ownSems0 (thr d L) : sProp 𝕄) = iprop(sems d L ∗ restSems d L) := by
  rw [sems_eq]
  unfold sems
  change _ = iprop(_ ∗ bigSep ((semList d L).foldl Finset.erase (ownCells (thr d L))) fun g => semVal g 0)
  generalize (bigSep ((semList d L).foldl Finset.erase (ownCells (thr d L))) fun g => (semVal g 0 : sProp 𝕄)) = R
  unfold semList
  simp only [List.foldr_cons, List.foldr_nil, sepA]

theorem bufs_split : (ownBufs (thr d L) : sProp 𝕄) = iprop(scr d L ∗ restBufs d L) := by
  rw [bufs_eq]
  unfold scr
  change _ = iprop(_ ∗ bigSep ((bufList d L).foldl Finset.erase (ownRefs (thr d L).2)) fun b => iprop(∃ f, (((thr d L).1, b) : Loc nD τ sig) ↦{fullShare} f))
  generalize (bigSep ((bufList d L).foldl Finset.erase (ownRefs (thr d L).2)) fun b => (iprop(∃ f, (((thr d L).1, b) : Loc nD τ sig) ↦{fullShare} f) : sProp 𝕄)) = R
  unfold bufList
  simp only [List.map_cons, List.map_nil, List.foldr_cons, List.foldr_nil, sepA]
  rfl

theorem tile_body (O : CellTallies nD τ sig (HIx 1)) (W : Waits sig (HIx 1)) (hO : ∀ g, O g none = 0) (q : PosShare TreeShare)
    (X : Vec F S8000000 .f32) (Y : Vec F S80000 .f32) (fb : Vec F S1280000 .f32) (fs : Vec F S320000 .f32) (fc : Vec F S320000 .i32) (fn : Vec F S32x16 .i32) :
    iprop(levAts (K (F := F)).L (K (F := F)).lev ∗ emp ∗ tileRes d L q X Y fb fs fc fn ∗ scopedBufs (thr d L) ∗ scopedSems0 (thr d L) ∗ owes (thr d L) O W)
      ⊢ wp frame (wpE (defs₀ (F := F)) 𝒱₀ (thr d L) none) Set.univ (cc0__decode_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25)
        fun _ => iprop(tileRes d L q X Y (boxA X Y) (scoreA X) (classA X) (countA X) ∗ scopedBufs (thr d L) ∗ scopedSems0 (thr d L)
          ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), bufs_split, sems_split]
  refine BIBase.Entails.trans ?_ ((sep_mono_left (body_wp d L O W hO q q X Y fb fs fc fn)).trans ((wp_frame_r frame _ _ (R := iprop(restBufs d L ∗ restSems d L))).trans (wp_mono frame _ _ fun _ => ?_)))
  · unfold tileRes scr sems
    iintro ⟨#Hl, -, ⟨H1, H2⟩, ⟨H3, H3r⟩, ⟨H4, H4r⟩, H5⟩
    isplitr [H3r H4r]
    · isplitr; · iexact Hl
      isplitl [H1]; · iexact H1
      isplitl [H2]; · iexact H2
      isplitl [H3]; · iexact H3
      isplitl [H4]; · iexact H4
      iexact H5
    · isplitl [H3r] <;> iassumption
  · unfold tileRes scr sems
    iintro ⟨⟨H1, H2, H3, H4, %W', %hW, H5⟩, H3r, H4r⟩
    isplitl [H1 H2]
    · isplitl [H1] <;> iassumption
    isplitl [H3 H3r]
    · isplitl [H3] <;> iassumption
    isplitl [H4 H4r]
    · isplitl [H4] <;> iassumption
    iexists W'; isplitr
    · ipureintro; exact fun p hp => (hW p hp).imp_right Or.inl
    · iexact H5

end Task

/-! ## What the handshakes carry -/

variable (m : (ℓ : Loc nD τ sig) → Buf (Elt F) ℓ) (ρ : Dev nD → PrngReg)

abbrev v0' : DevRef τ sig := Proc.devRef .tc (main_v0 : Ref sig .tc)
abbrev v1' : DevRef τ sig := Proc.devRef .tc (main_v1 : Ref sig .tc)
abbrev b' : DevRef τ sig := Proc.devRef .tc (main_v2_0 : Ref sig .tc)
abbrev s' : DevRef τ sig := Proc.devRef .tc (main_v2_1 : Ref sig .tc)
abbrev c' : DevRef τ sig := Proc.devRef .tc (main_v2_2 : Ref sig .tc)
abbrev n' : DevRef τ sig := Proc.devRef .tc (main_v2_3 : Ref sig .tc)
abbrev x0' : DevRef τ sig := Proc.devRef .tc (main_arg0 : Ref sig .tc)
abbrev x1' : DevRef τ sig := Proc.devRef .tc (main_arg1 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev k' : DevRef τ sig := Proc.devRef .tc (main_c : Ref sig .tc)
abbrev v7' : DevRef τ sig := Proc.devRef .tc (main_v7 : Ref sig .tc)

/-- The tables as the call reads them: the arguments in row-major order. -/
def Xf (d : Dev nD) : Vec F S8000000 .f32 := shapeCast S8000000 (m ((tc d).loc main_arg0)) shapeCasts_S16x20000x25_S8000000
def Yf (d : Dev nD) : Vec F S80000 .f32 := shapeCast S80000 (m ((tc d).loc main_arg1)) shapeCasts_S20000x4_S80000

/-- The tile's part at the launch's contents of the results, and at what it is to write. -/
def goRes (d : Dev nD) (c : Fin 2) (s : Fin 16) : sProp 𝕄 :=
  tileRes d (coords c s) (qs c s) (Xf m d) (Yf m d) (m ((tc d).loc main_v2_0)) (m ((tc d).loc main_v2_1)) (m ((tc d).loc main_v2_2)) (m ((tc d).loc main_v2_3))
def tdRes (d : Dev nD) (c : Fin 2) (s : Fin 16) : sProp 𝕄 :=
  tileRes d (coords c s) (qs c s) (Xf m d) (Yf m d) (boxA (Xf m d) (Yf m d)) (scoreA (Xf m d)) (classA (Xf m d)) (countA (Xf m d))

instance goRes_storable (d : Dev nD) (c : Fin 2) (s : Fin 16) : BI.Storable (upEmb : UEmb _ 𝕄) (goRes m d c s) := by unfold goRes; infer_instance
instance tdRes_storable (d : Dev nD) (c : Fin 2) (s : Fin 16) : BI.Storable (upEmb : UEmb _ 𝕄) (tdRes m d c s) := by unfold tdRes; infer_instance

def P : (K (F := F)).Pay (nD := nD) (Val := Elt F) (Name := ℕ) (U := UU) where
  st := fun q d c => match q with | 0 => bigSep Finset.univ fun s : Fin 16 => goRes m d c s
  dn := fun q d c => match q with | 0 => bigSep Finset.univ fun s : Fin 16 => tdRes m d c s
  go := fun q d c i => match q with | 0 => goRes m d c (Fin.cast nSub_zero i)
  td := fun q d c i => match q with | 0 => tdRes m d c (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goRes m d c s))
  dn q d c := match q with
    | 0 => (inferInstance : BI.Storable (upEmb : UEmb _ 𝕄) (bigSep Finset.univ fun s : Fin 16 => tdRes m d c s))
  go q d c i := match q with
    | 0 => (inferInstance : BI.Storable (upEmb : UEmb _ 𝕄) (goRes m d c (Fin.cast nSub_zero i)))
  td q d c i := match q with
    | 0 => (inferInstance : BI.Storable (upEmb : UEmb _ 𝕄) (tdRes m d c (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => goRes m d c s) ⊢ |={Set.univ}=> iprop(
      (bigSep Finset.univ fun i : Fin ((K (F := F)).nSub 0) => goRes m d c (Fin.cast nSub_zero i))
      ∗ ((bigSep Finset.univ fun i : Fin ((K (F := F)).nSub 0) => tdRes m d c (Fin.cast nSub_zero i)) -∗ bigSep Finset.univ fun s : Fin 16 => tdRes m d c s))
  rw [bigSep_tasks (F := F) (fun s => goRes m d c s), bigSep_tasks (F := F) (fun s => tdRes m d c s)]
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => (fun L => cc0__decode_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25) (coords c s)) ⟨⟩ c s := rfl

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body d (coords ⟨_, hc.1⟩ ⟨_, hc.2⟩) O W hO (qs c (Fin.cast nSub_zero i)) (Xf m d) (Yf m d) _ _ _ _

/-! ## The launch's ghost state -/

def u₀ : UU := (initOf (K (F := F)).hsCells (K (F := F)).hsToks, 1)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [emp_all]; iempintro
  · rw [show (fun thr : Thread nD τ => bigSep Finset.univ fun q : Fin 1 => (P m).x q thr) = fun _ => (iprop(emp) : sProp 𝕄) from
      funext fun thr => emp_all _, emp_all]; iempintro

/-! ## @main on the TensorCore -/

abbrev op0 : HloOp τ sig (Elt F) := StableHlo.reshape main_arg0 main_v0 (rfl : (.f32 : EltTy) = .f32) shapeCasts_S16x20000x25_S8000000
abbrev op1 : HloOp τ sig (Elt F) := StableHlo.reshape main_arg1 main_v1 (rfl : (.f32 : EltTy) = .f32) shapeCasts_S20000x4_S80000
abbrev op3 : HloOp τ sig (Elt F) := StableHlo.reshape main_v2_0 main_v3 (rfl : (.f32 : EltTy) = .f32) shapeCasts_S1280000_S16x20000x4
abbrev op4 : HloOp τ sig (Elt F) := StableHlo.reshape main_v2_1 main_v4 (rfl : (.f32 : EltTy) = .f32) shapeCasts_S320000_S16x20000
abbrev op5 : HloOp τ sig (Elt F) := StableHlo.reshape main_v2_2 main_v5 (rfl : (.i32 : EltTy) = .i32) shapeCasts_S320000_S16x20000
abbrev op6 : HloOp τ sig (Elt F) := StableHlo.reshape main_v2_3 main_v6 (rfl : (.i32 : EltTy) = .i32) shapeCasts_S32x16_S16x32
abbrev opk : HloOp τ sig (Elt F) := StableHlo.nullary main_c (constantI S_ 32 0#32)
abbrev op7 : HloOp τ sig (Elt F) := StableHlo.binary main_v6 main_c main_v7 ((fun x v => Host.reduce IntOp.addi x v reducesTo_S16x32_S16_d1 h_S_) : (⟨S16x32, .i32⟩ : BufTy).Contents (Elt F) → (⟨S_, .i32⟩ : BufTy).Contents (Elt F) → (⟨S16, .i32⟩ : BufTy).Contents (Elt F))
abbrev pre : List (HloOp τ sig (Elt F)) := [op0, op1]
abbrev post : List (HloOp τ sig (Elt F)) := [op3, op4, op5, op6, opk, op7]

theorem main_eq (d : Dev nD) : main (F := F) d = seq pre >>= fun _ => ((sc (F := F)).run d 0 >>= fun _ => (seq post >>= fun _ => pure ⟨⟩)) := rfl

/-- The arrays of @main, the call's first. -/
def SS : Finset (DevRef τ sig) := {v0', v1', b', s', c', n', x0', x1', v3', v4', v5', v6', k', v7'}

theorem pre_sub : ∀ op ∈ (pre : List (HloOp τ sig (Elt F))), op.bufs ⊆ SS := by
  intro op h
  simp only [List.mem_cons, List.not_mem_nil, _root_.or_false] at h
  rcases h with rfl | rfl
  · show ({x0', v0'} : Finset (DevRef τ sig)) ⊆ SS; decide
  · show ({x1', v1'} : Finset (DevRef τ sig)) ⊆ SS; decide
theorem pre_fresh : ∀ op ∈ (pre : List (HloOp τ sig (Elt F))), op.fresh = ∅ := by
  intro op h
  simp only [List.mem_cons, List.not_mem_nil, _root_.or_false] at h
  rcases h with rfl | rfl <;> rfl
theorem post_sub : ∀ op ∈ (post : List (HloOp τ sig (Elt F))), op.bufs ⊆ SS := by
  intro op h
  simp only [List.mem_cons, List.not_mem_nil, _root_.or_false] at h
  rcases h with rfl | rfl | rfl | rfl | rfl | rfl
  · show ({b', v3'} : Finset (DevRef τ sig)) ⊆ SS; decide
  · show ({s', v4'} : Finset (DevRef τ sig)) ⊆ SS; decide
  · show ({c', v5'} : Finset (DevRef τ sig)) ⊆ SS; decide
  · show ({n', v6'} : Finset (DevRef τ sig)) ⊆ SS; decide
  · show ({k'} : Finset (DevRef τ sig)) ⊆ SS; decide
  · show ({v6', k', v7'} : Finset (DevRef τ sig)) ⊆ SS; decide
theorem post_fresh : ∀ op ∈ (post : List (HloOp τ sig (Elt F))), op.fresh = ∅ := by
  intro op h
  simp only [List.mem_cons, List.not_mem_nil, _root_.or_false] at h
  rcases h with rfl | rfl | rfl | rfl | rfl | rfl <;> rfl

theorem held_SS (d : Dev nD) (W : Valuation τ sig (Elt F)) :
    (held (tc d) SS W : sProp 𝕄)
      = iprop(wholeRes d (W v0') (W v1') (W b') (W s') (W c') (W n') ∗ held (tc d) {x0', x1', v3', v4', v5', v6', k', v7'} W) := by
  unfold held SS wholeRes
  rw [SparseCore.bigSep_insert' (by decide), SparseCore.bigSep_insert' (by decide), SparseCore.bigSep_insert' (by decide),
    SparseCore.bigSep_insert' (by decide), SparseCore.bigSep_insert' (by decide), SparseCore.bigSep_insert' (by decide)]
  simp only [sepA]

omit [FloatOps F] in
theorem held_rest (d : Dev nD) (W : Valuation τ sig (Elt F)) :
    (held (tc d) {x0', x1', v3', v4', v5', v6', k', v7'} W : sProp 𝕄)
      = iprop(((tc d).loc main_arg0 ↦{fullShare} W x0') ∗ ((tc d).loc main_arg1 ↦{fullShare} W x1') ∗ ((tc d).loc main_v3 ↦{fullShare} W v3')
        ∗ ((tc d).loc main_v4 ↦{fullShare} W v4') ∗ ((tc d).loc main_v5 ↦{fullShare} W v5') ∗ ((tc d).loc main_v6 ↦{fullShare} W v6')
        ∗ ((tc d).loc main_c ↦{fullShare} W k') ∗ (tc d).loc main_v7 ↦{fullShare} W v7') := by
  unfold held
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem held_congr (d : Dev nD) (S : Finset (DevRef τ sig)) (W W' : Valuation τ sig (Elt F)) (h : ∀ b ∈ S, W b = W' b) :
    (held (tc d) S W : sProp 𝕄) = held (tc d) S W' :=
  bigSep_congr fun b hb => by rw [h b hb]

/-- The launch's contents; before the call; after the call. -/
def V0 (d : Dev nD) : Valuation τ sig (Elt F) := fun b => m (d, b)
def V2 (d : Dev nD) : Valuation τ sig (Elt F) := after pre (V0 m d)
def V4 (d : Dev nD) : Valuation τ sig (Elt F) :=
  Function.update (Function.update (Function.update (Function.update (V2 m d) b' (boxA (Xf m d) (Yf m d))) s' (scoreA (Xf m d))) c' (classA (Xf m d))) n' (countA (Xf m d))

theorem unscoped_held (d : Dev nD) : (unscopedBufs d (fun b => m ((SparseCore.T d).loc b)) : sProp 𝕄) = held (tc d) SS (V0 m d) := by
  unfold unscopedBufs
  rw [show (Finset.univ.filter fun b : Ref sig .tc => ¬ b.isScoped) = {main_v0, main_v1, main_v2_0, main_v2_1, main_v2_2, main_v2_3, main_arg0, main_arg1, main_v3, main_v4, main_v5, main_v6, main_c, main_v7} by decide,
    held_SS, held_rest]
  unfold wholeRes
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [sepA]; rfl

theorem V2_v0 (d : Dev nD) : V2 m d v0' = Xf m d := by show after [op0, op1] (V0 m d) (Proc.devRef .tc (main_v0 : Ref sig .tc)) = _; after_reads_simp; rfl
theorem V2_v1 (d : Dev nD) : V2 m d v1' = Yf m d := by show after [op0, op1] (V0 m d) (Proc.devRef .tc (main_v1 : Ref sig .tc)) = _; after_reads_simp; rfl
theorem V2_b (d : Dev nD) : V2 m d b' = m ((tc d).loc main_v2_0) := by show after [op0, op1] (V0 m d) (Proc.devRef .tc (main_v2_0 : Ref sig .tc)) = _; after_reads_simp; rfl
theorem V2_s (d : Dev nD) : V2 m d s' = m ((tc d).loc main_v2_1) := by show after [op0, op1] (V0 m d) (Proc.devRef .tc (main_v2_1 : Ref sig .tc)) = _; after_reads_simp; rfl
theorem V2_c (d : Dev nD) : V2 m d c' = m ((tc d).loc main_v2_2) := by show after [op0, op1] (V0 m d) (Proc.devRef .tc (main_v2_2 : Ref sig .tc)) = _; after_reads_simp; rfl
theorem V2_n (d : Dev nD) : V2 m d n' = m ((tc d).loc main_v2_3) := by show after [op0, op1] (V0 m d) (Proc.devRef .tc (main_v2_3 : Ref sig .tc)) = _; after_reads_simp; rfl
theorem V2_x0 (d : Dev nD) : V2 m d x0' = m ((tc d).loc main_arg0) := by show after [op0, op1] (V0 m d) (Proc.devRef .tc (main_arg0 : Ref sig .tc)) = _; after_reads_simp; rfl
theorem V2_x1 (d : Dev nD) : V2 m d x1' = m ((tc d).loc main_arg1) := by show after [op0, op1] (V0 m d) (Proc.devRef .tc (main_arg1 : Ref sig .tc)) = _; after_reads_simp; rfl

theorem V4_of (d : Dev nD) {b : DevRef τ sig} (h1 : b ≠ b') (h2 : b ≠ s') (h3 : b ≠ c') (h4 : b ≠ n') : V4 m d b = V2 m d b := by
  unfold V4
  rw [Function.update_of_ne h4, Function.update_of_ne h3, Function.update_of_ne h2, Function.update_of_ne h1]
theorem V4_b (d : Dev nD) : V4 m d b' = boxA (Xf m d) (Yf m d) := by
  unfold V4
  rw [Function.update_of_ne (by decide), Function.update_of_ne (by decide), Function.update_of_ne (by decide), Function.update_self]
theorem V4_s (d : Dev nD) : V4 m d s' = scoreA (Xf m d) := by
  unfold V4
  rw [Function.update_of_ne (by decide), Function.update_of_ne (by decide), Function.update_self]
theorem V4_c (d : Dev nD) : V4 m d c' = classA (Xf m d) := by
  unfold V4
  rw [Function.update_of_ne (by decide), Function.update_self]
theorem V4_n (d : Dev nD) : V4 m d n' = countA (Xf m d) := Function.update_self _ _ _

theorem V4_rest (d : Dev nD) : (held (tc d) {x0', x1', v3', v4', v5', v6', k', v7'} (V2 m d) : sProp 𝕄) = held (tc d) {x0', x1', v3', v4', v5', v6', k', v7'} (V4 m d) :=
  held_congr d _ _ _ fun b hb => (V4_of m d (fun e => absurd (e ▸ hb) (by decide)) (fun e => absurd (e ▸ hb) (by decide)) (fun e => absurd (e ▸ hb) (by decide)) (fun e => absurd (e ▸ hb) (by decide))).symm

/-- The results of @main. -/
def R3 (d : Dev nD) : Vec F S16x20000x4 .f32 := shapeCast S16x20000x4 (boxA (Xf m d) (Yf m d)) shapeCasts_S1280000_S16x20000x4
def R4 (d : Dev nD) : Vec F S16x20000 .f32 := shapeCast S16x20000 (scoreA (Xf m d)) shapeCasts_S320000_S16x20000
def R5 (d : Dev nD) : Vec F S16x20000 .i32 := shapeCast S16x20000 (classA (Xf m d)) shapeCasts_S320000_S16x20000
def R7 (d : Dev nD) : Vec F S16 .i32 :=
  Host.reduce IntOp.addi (shapeCast S16x32 (countA (Xf m d)) shapeCasts_S32x16_S16x32) (constantI S_ 32 0#32) reducesTo_S16x32_S16_d1 h_S_

theorem V5_x0 (d : Dev nD) : after post (V4 m d) x0' = m ((tc d).loc main_arg0) := by
  show after [op3, op4, op5, op6, opk, op7] (V4 m d) (Proc.devRef .tc (main_arg0 : Ref sig .tc)) = _; after_reads_simp; rw [V4_of m d (by decide) (by decide) (by decide) (by decide), V2_x0]
theorem V5_x1 (d : Dev nD) : after post (V4 m d) x1' = m ((tc d).loc main_arg1) := by
  show after [op3, op4, op5, op6, opk, op7] (V4 m d) (Proc.devRef .tc (main_arg1 : Ref sig .tc)) = _; after_reads_simp; rw [V4_of m d (by decide) (by decide) (by decide) (by decide), V2_x1]
theorem V5_v3 (d : Dev nD) : after post (V4 m d) v3' = R3 m d := by
  show after [op3, op4, op5, op6, opk, op7] (V4 m d) (Proc.devRef .tc (main_v3 : Ref sig .tc)) = _; after_reads_simp; rw [V4_b]; rfl
theorem V5_v4 (d : Dev nD) : after post (V4 m d) v4' = R4 m d := by
  show after [op3, op4, op5, op6, opk, op7] (V4 m d) (Proc.devRef .tc (main_v4 : Ref sig .tc)) = _; after_reads_simp; rw [V4_s]; rfl
theorem V5_v5 (d : Dev nD) : after post (V4 m d) v5' = R5 m d := by
  show after [op3, op4, op5, op6, opk, op7] (V4 m d) (Proc.devRef .tc (main_v5 : Ref sig .tc)) = _; after_reads_simp; rw [V4_c]; rfl
theorem V5_v7 (d : Dev nD) : after post (V4 m d) v7' = R7 m d := by
  show after [op3, op4, op5, op6, opk, op7] (V4 m d) (Proc.devRef .tc (main_v7 : Ref sig .tc)) = _; after_reads_simp; rw [V4_n]; rfl

theorem st0_eq (d : Dev nD) : (bigSep Finset.univ fun c : Fin ((K (F := F)).nCore 0) => (P m).st 0 d c)
    = wholeRes d (Xf m d) (Yf m d) (m ((tc d).loc main_v2_0)) (m ((tc d).loc main_v2_1)) (m ((tc d).loc main_v2_2)) (m ((tc d).loc main_v2_3)) := by
  rw [whole_eq]; rfl
theorem dn0_eq (d : Dev nD) : (bigSep Finset.univ fun c : Fin ((K (F := F)).nCore 0) => (P m).dn 0 d c)
    = wholeRes d (Xf m d) (Yf m d) (boxA (Xf m d) (Yf m d)) (scoreA (Xf m d)) (classA (Xf m d)) (countA (Xf m d)) := by
  rw [whole_eq]; rfl

/-- What @main leaves: its arguments as they were, and its results. -/
abbrev FIN (d : Dev nD) : sProp 𝕄 :=
  iprop(((tc d).loc main_arg0 ↦{fullShare} m ((tc d).loc main_arg0)) ∗ ((tc d).loc main_arg1 ↦{fullShare} m ((tc d).loc main_arg1)) ∗ ((tc d).loc main_v3 ↦{fullShare} R3 m d)
    ∗ ((tc d).loc main_v4 ↦{fullShare} R4 m d) ∗ ((tc d).loc main_v5 ↦{fullShare} R5 m d) ∗ (tc d).loc main_v7 ↦{fullShare} R7 m d)

/-- The arrays before the call. -/
theorem held_V2 (d : Dev nD) : (held (tc d) SS (after pre (V0 m d)) : sProp 𝕄)
    = iprop(wholeRes d (Xf m d) (Yf m d) (m ((tc d).loc main_v2_0)) (m ((tc d).loc main_v2_1)) (m ((tc d).loc main_v2_2)) (m ((tc d).loc main_v2_3))
      ∗ held (tc d) {x0', x1', v3', v4', v5', v6', k', v7'} (V4 m d)) := by
  rw [← V4_rest m d, ← V2_v0 m d, ← V2_v1 m d, ← V2_b m d, ← V2_s m d, ← V2_c m d, ← V2_n m d]; exact held_SS d (V2 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d SS _ pre pre_sub pre_fresh (V0 m d)) $$ [Hb Hheld]
  · isplitl [Hb] <;> iassumption
  iintro ⟨Hb, Hheld⟩
  ihave Hh := (Entails.of_eq (held_V2 m d)) $$ Hheld
  icases Hh with ⟨Hw, Hr⟩
  rw [wp_bind]
  iapply ((K (F := F)).wp_run (D (F := F)) 𝒱 (EH := EH) (P := P m) κ d 0) $$ [Hst Hw Hr Hb Hts]
  isplitr; · iexact Hctx
  isplitl [Hst]; · iexact Hst
  isplitl [Hw]
  · rw [st0_eq]; iexact Hw
  iintro ⟨Hst, Hdn⟩
  ihave Hw := (Entails.of_eq (dn0_eq m d)) $$ Hdn
  iapply (wp_seq 𝒱 none Set.univ d SS _ post post_sub post_fresh (V4 m d)) $$ [Hb Hw Hr]
  · isplitl [Hb]; · iexact Hb
    rw [held_SS, V4_b, V4_s, V4_c, V4_n, V4_of m d (b := v0') (by decide) (by decide) (by decide) (by decide), V4_of m d (b := v1') (by decide) (by decide) (by decide) (by decide), V2_v0, V2_v1]
    isplitl [Hw] <;> iassumption
  iintro ⟨Hb, Hheld⟩
  ihave Hh := (Entails.of_eq (held_SS (F := F) d (after post (V4 m d)))) $$ Hheld
  icases Hh with ⟨-, Hr⟩
  ihave Hr := (Entails.of_eq (held_rest (F := F) d (after post (V4 m d)))) $$ Hr
  rw [V5_x0, V5_x1, V5_v3, V5_v4, V5_v5, V5_v7]
  icases Hr with ⟨H0, H1, H3, H4, H5, -, -, H7⟩
  rw [wp_pure]
  imodintro
  isplitl [Hst]; · iexact Hst
  isplitr [Hb Hts]
  · isplitl [H0]; · iexact H0
    isplitl [H1]; · iexact H1
    isplitl [H3]; · iexact H3
    isplitl [H4]; · iexact H4
    isplitl [H5]; · iexact H5
    iexact H7
  isplitl [Hb] <;> iassumption

/-- What the claims read of a final state. -/
def fq (d : Dev nD) (s : Phys nD τ sig (Elt F)) : Prop :=
  s.mem.mem ((tc d).loc main_arg0) = m ((tc d).loc main_arg0) ∧ s.mem.mem ((tc d).loc main_arg1) = m ((tc d).loc main_arg1)
    ∧ s.mem.mem ((tc d).loc main_v3) = R3 m d ∧ s.mem.mem ((tc d).loc main_v4) = R4 m d
    ∧ s.mem.mem ((tc d).loc main_v5) = R5 m d ∧ s.mem.mem ((tc d).loc main_v7) = R7 m d

omit [FloatOps F] in
theorem agree (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s : Phys nD τ sig (Elt F)) : iprop(FIN m d ∗ SI s) ⊢ (⌜fq m d s⌝ : sProp 𝕄) := by
  iintro ⟨⟨H0, H1, H3, H4, H5, H7⟩, HSI⟩
  ihave H := (agree s ((tc d).loc main_arg0) _) $$ [H0 HSI]
  · isplitl [H0] <;> iassumption
  icases H with ⟨%h0, HSI⟩
  ihave H := (agree s ((tc d).loc main_arg1) _) $$ [H1 HSI]
  · isplitl [H1] <;> iassumption
  icases H with ⟨%h1, HSI⟩
  ihave H := (agree s ((tc d).loc main_v3) _) $$ [H3 HSI]
  · isplitl [H3] <;> iassumption
  icases H with ⟨%h3, HSI⟩
  ihave H := (agree s ((tc d).loc main_v4) _) $$ [H4 HSI]
  · isplitl [H4] <;> iassumption
  icases H with ⟨%h4, HSI⟩
  ihave H := (agree s ((tc d).loc main_v5) _) $$ [H5 HSI]
  · isplitl [H5] <;> iassumption
  icases H with ⟨%h5, HSI⟩
  ihave H := (agree s ((tc d).loc main_v7) _) $$ [H7 HSI]
  · isplitl [H7] <;> iassumption
  icases H with ⟨%h7, HSI⟩
  ipureintro; exact ⟨h0, h1, h3, h4, h5, h7⟩

/-! ## The run -/

def QC : PUnit × MemSt nD τ sig (Elt F) → Prop := fun r => (∀ d : Dev nD,
    r.2.mem ((tc d).loc main_arg0) = m ((tc d).loc main_arg0) ∧ r.2.mem ((tc d).loc main_arg1) = m ((tc d).loc main_arg1)
      ∧ r.2.mem ((tc d).loc main_v3) = R3 m d ∧ r.2.mem ((tc d).loc main_v4) = R4 m d
      ∧ r.2.mem ((tc d).loc main_v5) = R5 m d ∧ r.2.mem ((tc d).loc main_v7) = R7 m d)
  ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Ref.lean ====
/-
  The reference's run. Its @main is a straight line of array operations, three of them groups a function's body gives
  (the clip, the arg-max, the masking select). `opsA` … `opsE` list them in order; every buffer ends at their results over
  what it held at the launch (`run_main`), and the four returned arrays at the terms `boxes`, `scores`, `classes` and
  `number` of the two arguments.
-/
module

public import proofs.«01_k».proof.Defs
public import proofs.«01_k».proof.Proof.Gen.ReferenceIdeal
public import Idealize.ShloMosaic.Lib.StableHlo.Run
public import Idealize.ShloMosaic.Lib.Quiescent

@[expose] public section

namespace Cert.Proof.Ref

open Idealize.ShloMosaic Idealize.SL.Sem Idealize.ShloMosaic.StableHlo
open Cert.ReferenceIdeal Cert.ReferenceIdeal.Gen

variable {F : FTy → Type} [FloatOps F]

/-! ## The values -/

/-- Column `k` of the default boxes, as a vector. -/
def col0 (b : FVec F S20000x4 .f32) : FVec F S20000 .f32 := shapeCast S20000 (extractStridedSlice S20000x1 ![0, 0] b slices_S20000x4_S20000x1_0_0) shapeCasts_S20000x1_S20000
def col1 (b : FVec F S20000x4 .f32) : FVec F S20000 .f32 := shapeCast S20000 (extractStridedSlice S20000x1 ![0, 1] b slices_S20000x4_S20000x1_0_1) shapeCasts_S20000x1_S20000
def col2 (b : FVec F S20000x4 .f32) : FVec F S20000 .f32 := shapeCast S20000 (extractStridedSlice S20000x1 ![0, 2] b slices_S20000x4_S20000x1_0_2) shapeCasts_S20000x1_S20000
def col3 (b : FVec F S20000x4 .f32) : FVec F S20000 .f32 := shapeCast S20000 (extractStridedSlice S20000x1 ![0, 3] b slices_S20000x4_S20000x1_0_3) shapeCasts_S20000x1_S20000

/-- A vector as a one-column table. -/
def up (x : FVec F S20000 .f32) : FVec F S20000x1 .f32 := broadcastInDim S20000x1 ![0] bcast_S20000_S20000x1_0 x

/-- The vector of twos, and half of a sum by division. -/
def two : FVec F S20000 .f32 := broadcastInDim S20000 ![] bcast_S_S20000 (constant S_ .f32 0x40000000#32)

/-- The default boxes in centre form: two centres, two extents. -/
def cform (b : FVec F S20000x4 .f32) : FVec F S20000x4 .f32 :=
  concatenate S20000x4 1
    [⟨S20000x1, up (Host.divf (addf (col2 b) (col0 b)) two)⟩, ⟨S20000x1, up (Host.divf (addf (col3 b) (col1 b)) two)⟩,
     ⟨S20000x1, up (subf (col2 b) (col0 b))⟩, ⟨S20000x1, up (subf (col3 b) (col1 b))⟩]
    concatenates_S20000x1_S20000x1_S20000x1_S20000x1_S20000x4_d1

/-- The first and last two columns of a table. -/
def lo2 (b : FVec F S20000x4 .f32) : FVec F S20000x2 .f32 := extractStridedSlice S20000x2 ![0, 0] b slices_S20000x4_S20000x2_0_0
def hi2 (b : FVec F S20000x4 .f32) : FVec F S20000x2 .f32 := extractStridedSlice S20000x2 ![0, 2] b slices_S20000x4_S20000x2_0_2
def lo3 (x : FVec F S16x20000x4 .f32) : FVec F S16x20000x2 .f32 := extractStridedSlice S16x20000x2 ![0, 0, 0] x slices_S16x20000x4_S16x20000x2_0_0_0
def hi3 (x : FVec F S16x20000x4 .f32) : FVec F S16x20000x2 .f32 := extractStridedSlice S16x20000x2 ![0, 0, 2] x slices_S16x20000x4_S16x20000x2_0_0_2
def cat2 (a b : FVec F S20000x2 .f32) : FVec F S20000x4 .f32 := concatenate S20000x4 1 [⟨S20000x2, a⟩, ⟨S20000x2, b⟩] concatenates_S20000x2_S20000x2_S20000x4_d1
def cat3 (a b : FVec F S16x20000x2 .f32) : FVec F S16x20000x4 .f32 := concatenate S16x20000x4 2 [⟨S16x20000x2, a⟩, ⟨S16x20000x2, b⟩] concatenates_S16x20000x2_S16x20000x2_S16x20000x4_d2

/-- A table repeated for every image. -/
def all4 (b : FVec F S20000x4 .f32) : FVec F S16x20000x4 .f32 :=
  broadcastInDim S16x20000x4 ![0, 1, 2] bcast_S1x20000x4_S16x20000x4_0_1_2 (broadcastInDim S1x20000x4 ![1, 2] bcast_S20000x4_S1x20000x4_1_2 b)
def all2 (b : FVec F S20000x2 .f32) : FVec F S16x20000x2 .f32 :=
  broadcastInDim S16x20000x2 ![0, 1, 2] bcast_S1x20000x2_S16x20000x2_0_1_2 (broadcastInDim S1x20000x2 ![1, 2] bcast_S20000x2_S1x20000x2_1_2 b)

/-- The location logits scaled by the extents (the size logits by one) and moved by the centres (the size logits by zero). -/
def moved (x : FVec F S16x20000x4 .f32) (c : FVec F S20000x4 .f32) : FVec F S16x20000x4 .f32 :=
  addf (mulf x (all4 (cat2 (hi2 c) (broadcastInDim S20000x2 ![] bcast_S_S20000x2 (constant S_ .f32 0x3F800000#32)))))
    (all4 (cat2 (lo2 c) (broadcastInDim S20000x2 ![] bcast_S_S20000x2 (constant S_ .f32 0x00000000#32))))

/-- The decoded boxes in centre form. -/
def decoded (x : FVec F S16x20000x4 .f32) (c : FVec F S20000x4 .f32) : FVec F S16x20000x4 .f32 :=
  cat3 (lo3 (moved x c)) (mulf (Host.exp (hi3 (moved x c))) (all2 (hi2 c)))

def two3 : FVec F S16x20000x2 .f32 := broadcastInDim S16x20000x2 ![] bcast_S_S16x20000x2 (constant S_ .f32 0x40000000#32)

/-- Their corners, clipped. -/
def clipped (y : FVec F S16x20000x4 .f32) : FVec F S16x20000x4 .f32 :=
  minimumf (broadcastInDim S16x20000x4 ![] bcast_S_S16x20000x4 (constant S_ .f32 0x3F800000#32))
    (maximumf (broadcastInDim S16x20000x4 ![] bcast_S_S16x20000x4 (constant S_ .f32 0x00000000#32))
      (cat3 (subf (lo3 y) (Host.divf (hi3 y) two3)) (addf (lo3 y) (Host.divf (hi3 y) two3))))

/-- The class logits and the location logits of every row. -/
def clsLg (x : FVec F S16x20000x25 .f32) : FVec F S16x20000x21 .f32 := extractStridedSlice S16x20000x21 ![0, 0, 4] x slices_S16x20000x25_S16x20000x21_0_0_4
def locLg (x : FVec F S16x20000x25 .f32) : FVec F S16x20000x4 .f32 := extractStridedSlice S16x20000x4 ![0, 0, 0] x slices_S16x20000x25_S16x20000x4_0_0_0

/-- The largest class logit, its number, and whether it is not the background's. -/
def top (x : FVec F S16x20000x21 .f32) : FVec F S16x20000 .f32 :=
  Host.reduce FloatOps.maximumf x (constant S_ .f32 0xFF800000#32) reducesTo_S16x20000x21_S16x20000_d2 h_S_
def arg (x : FVec F S16x20000x21 .f32) : IVec S16x20000 32 := fun j =>
  (Host.argReduce reducer_argmax_f32_i32 x (iotaInDim S16x20000x21 32 2) (constant S_ .f32 0xFF800000#32) (constantI S_ 32 0#32)
    reducesTo_S16x20000x21_S16x20000_d2 h_S_ j).2
def mask (x : FVec F S16x20000x21 .f32) : IVec S16x20000 1 := cmpi .ne (arg x) (broadcastInDim S16x20000 ![] bcast_S_S16x20000 (constantI S_ 32 0#32))

/-- What the mask leaves of the boxes, the largest logits and the class numbers, and how many rows of each image it leaves. -/
def maskBoxes (k : IVec S16x20000 1) (b : FVec F S16x20000x4 .f32) : FVec F S16x20000x4 .f32 :=
  mulf b (broadcastInDim S16x20000x4 ![0, 1, 2] bcast_S16x20000x1_S16x20000x4_0_1_2
    (uitofp .f32 (broadcastInDim S16x20000x1 ![0, 1] bcast_S16x20000_S16x20000x1_0_1 k)))
def maskTop (k : IVec S16x20000 1) (t : FVec F S16x20000 .f32) : FVec F S16x20000 .f32 := mulf t (uitofp .f32 k)
def maskArg (k : IVec S16x20000 1) (a : IVec S16x20000 32) : IVec S16x20000 32 :=
  select k a (broadcastInDim S16x20000 ![] bcast_S_S16x20000 (constantI S_ 32 0#32))
def tally (k : IVec S16x20000 1) : IVec S16 32 :=
  Host.reduce IntOp.addi (extui 32 k natLt_1_32) (constantI S_ 32 0#32) reducesTo_S16x20000_S16_d1 h_S_

/-- The four results of the two arguments. -/
def boxes (x : FVec F S16x20000x25 .f32) (b : FVec F S20000x4 .f32) : FVec F S16x20000x4 .f32 :=
  maskBoxes (mask (clsLg x)) (clipped (decoded (locLg x) (cform b)))
def scores (x : FVec F S16x20000x25 .f32) : FVec F S16x20000 .f32 := maskTop (mask (clsLg x)) (top (clsLg x))
def classes (x : FVec F S16x20000x25 .f32) : IVec S16x20000 32 := maskArg (mask (clsLg x)) (arg (clsLg x))
def number (x : FVec F S16x20000x25 .f32) : IVec S16 32 := tally (mask (clsLg x))

/-! ## The operations -/

/-- The two slices of the logits, and the default boxes in centre form. -/
abbrev opsA : List (HloOp τ sig (Elt F)) :=
  [ unary main_arg0 main_v0 (extractStridedSlice S16x20000x21 ![0, 0, 4] · slices_S16x20000x25_S16x20000x21_0_0_4),
    unary main_arg0 main_v1 (extractStridedSlice S16x20000x4 ![0, 0, 0] · slices_S16x20000x25_S16x20000x4_0_0_0),
    unary main_arg1 main_v2 (extractStridedSlice S20000x1 ![0, 2] · slices_S20000x4_S20000x1_0_2),
    reshape main_v2 main_v3 (rfl : (.f32 : EltTy) = .f32) shapeCasts_S20000x1_S20000,
    unary main_arg1 main_v4 (extractStridedSlice S20000x1 ![0, 0] · slices_S20000x4_S20000x1_0_0),
    reshape main_v4 main_v5 (rfl : (.f32 : EltTy) = .f32) shapeCasts_S20000x1_S20000,
    binary main_v3 main_v5 main_v6 addf,
    nullary main_cst (constant S_ .f32 0x40000000#32),
    unary main_cst main_v7 (broadcastInDim S20000 ![] bcast_S_S20000),
    binary main_v6 main_v7 main_v8 Host.divf,
    unary main_arg1 main_v9 (extractStridedSlice S20000x1 ![0, 3] · slices_S20000x4_S20000x1_0_3),
    reshape main_v9 main_v10 (rfl : (.f32 : EltTy) = .f32) shapeCasts_S20000x1_S20000,
    unary main_arg1 main_v11 (extractStridedSlice S20000x1 ![0, 1] · slices_S20000x4_S20000x1_0_1),
    reshape main_v11 main_v12 (rfl : (.f32 : EltTy) = .f32) shapeCasts_S20000x1_S20000,
    binary main_v10 main_v12 main_v13 addf,
    nullary main_cst_0 (constant S_ .f32 0x40000000#32),
    unary main_cst_0 main_v14 (broadcastInDim S20000 ![] bcast_S_S20000),
    binary main_v13 main_v14 main_v15 Host.divf,
    unary main_arg1 main_v16 (extractStridedSlice S20000x1 ![0, 2] · slices_S20000x4_S20000x1_0_2),
    reshape main_v16 main_v17 (rfl : (.f32 : EltTy) = .f32) shapeCasts_S20000x1_S20000,
    unary main_arg1 main_v18 (extractStridedSlice S20000x1 ![0, 0] · slices_S20000x4_S20000x1_0_0),
    reshape main_v18 main_v19 (rfl : (.f32 : EltTy) = .f32) shapeCasts_S20000x1_S20000,
    binary main_v17 main_v19 main_v20 subf,
    unary main_arg1 main_v21 (extractStridedSlice S20000x1 ![0, 3] · slices_S20000x4_S20000x1_0_3),
    reshape main_v21 main_v22 (rfl : (.f32 : EltTy) = .f32) shapeCasts_S20000x1_S20000,
    unary main_arg1 main_v23 (extractStridedSlice S20000x1 ![0, 1] · slices_S20000x4_S20000x1_0_1),
    reshape main_v23 main_v24 (rfl : (.f32 : EltTy) = .f32) shapeCasts_S20000x1_S20000,
    binary main_v22 main_v24 main_v25 subf,
    unary main_v8 main_v26 (broadcastInDim S20000x1 ![0] bcast_S20000_S20000x1_0),
    unary main_v15 main_v27 (broadcastInDim S20000x1 ![0] bcast_S20000_S20000x1_0),
    unary main_v20 main_v28 (broadcastInDim S20000x1 ![0] bcast_S20000_S20000x1_0),
    unary main_v25 main_v29 (broadcastInDim S20000x1 ![0] bcast_S20000_S20000x1_0),
    nary ![main_v26, main_v27, main_v28, main_v29] main_v30 (fun u => (concatenate S20000x4 1 [⟨S20000x1, (u 0)⟩, ⟨S20000x1, (u 1 : (⟨S20000x1, .f32⟩ : BufTy).Contents (Elt F))⟩, ⟨S20000x1, (u 2 : (⟨S20000x1, .f32⟩ : BufTy).Contents (Elt F))⟩, ⟨S20000x1, (u 3 : (⟨S20000x1, .f32⟩ : BufTy).Contents (Elt F))⟩] concatenates_S20000x1_S20000x1_S20000x1_S20000x1_S20000x4_d1 : (⟨S20000x4, .f32⟩ : BufTy).Contents (Elt F))) ]

/-- The decoded centre and extent of each row's box. -/
abbrev opsB : List (HloOp τ sig (Elt F)) :=
  [ unary main_v30 main_v31 (extractStridedSlice S20000x2 ![0, 2] · slices_S20000x4_S20000x2_0_2),
    unary main_v30 main_v32 (extractStridedSlice S20000x2 ![0, 2] · slices_S20000x4_S20000x2_0_2),
    nullary main_cst_1 (constant S_ .f32 0x3F800000#32),
    unary main_cst_1 main_v33 (broadcastInDim S20000x2 ![] bcast_S_S20000x2),
    binary main_v31 main_v33 main_v34 (fun a b => concatenate S20000x4 1 [⟨S20000x2, a⟩, ⟨S20000x2, b⟩] concatenates_S20000x2_S20000x2_S20000x4_d1),
    unary main_v34 main_v35 (broadcastInDim S1x20000x4 ![1, 2] bcast_S20000x4_S1x20000x4_1_2),
    unary main_v35 main_v36 (broadcastInDim S16x20000x4 ![0, 1, 2] bcast_S1x20000x4_S16x20000x4_0_1_2),
    binary main_v1 main_v36 main_v37 mulf,
    unary main_v30 main_v38 (extractStridedSlice S20000x2 ![0, 0] · slices_S20000x4_S20000x2_0_0),
    unary main_v30 main_v39 (extractStridedSlice S20000x2 ![0, 2] · slices_S20000x4_S20000x2_0_2),
    nullary main_cst_2 (constant S_ .f32 0x00000000#32),
    unary main_cst_2 main_v40 (broadcastInDim S20000x2 ![] bcast_S_S20000x2),
    binary main_v38 main_v40 main_v41 (fun a b => concatenate S20000x4 1 [⟨S20000x2, a⟩, ⟨S20000x2, b⟩] concatenates_S20000x2_S20000x2_S20000x4_d1),
    unary main_v41 main_v42 (broadcastInDim S1x20000x4 ![1, 2] bcast_S20000x4_S1x20000x4_1_2),
    unary main_v42 main_v43 (broadcastInDim S16x20000x4 ![0, 1, 2] bcast_S1x20000x4_S16x20000x4_0_1_2),
    binary main_v37 main_v43 main_v44 addf,
    unary main_v44 main_v45 (extractStridedSlice S16x20000x2 ![0, 0, 0] · slices_S16x20000x4_S16x20000x2_0_0_0),
    unary main_v44 main_v46 (extractStridedSlice S16x20000x2 ![0, 0, 2] · slices_S16x20000x4_S16x20000x2_0_0_2),
    unary main_v46 main_v47 Host.exp,
    unary main_v30 main_v48 (extractStridedSlice S20000x2 ![0, 2] · slices_S20000x4_S20000x2_0_2),
    unary main_v48 main_v49 (broadcastInDim S1x20000x2 ![1, 2] bcast_S20000x2_S1x20000x2_1_2),
    unary main_v49 main_v50 (broadcastInDim S16x20000x2 ![0, 1, 2] bcast_S1x20000x2_S16x20000x2_0_1_2),
    binary main_v47 main_v50 main_v51 mulf,
    binary main_v45 main_v51 main_v52 (fun a b => concatenate S16x20000x4 2 [⟨S16x20000x2, a⟩, ⟨S16x20000x2, b⟩] concatenates_S16x20000x2_S16x20000x2_S16x20000x4_d2) ]

/-- The two corners, clipped to the unit square. -/
abbrev opsC : List (HloOp τ sig (Elt F)) :=
  [ unary main_v52 main_v53 (extractStridedSlice S16x20000x2 ![0, 0, 0] · slices_S16x20000x4_S16x20000x2_0_0_0),
    unary main_v52 main_v54 (extractStridedSlice S16x20000x2 ![0, 0, 2] · slices_S16x20000x4_S16x20000x2_0_0_2),
    nullary main_cst_3 (constant S_ .f32 0x40000000#32),
    unary main_cst_3 main_v55 (broadcastInDim S16x20000x2 ![] bcast_S_S16x20000x2),
    binary main_v54 main_v55 main_v56 Host.divf,
    binary main_v53 main_v56 main_v57 subf,
    unary main_v52 main_v58 (extractStridedSlice S16x20000x2 ![0, 0, 0] · slices_S16x20000x4_S16x20000x2_0_0_0),
    unary main_v52 main_v59 (extractStridedSlice S16x20000x2 ![0, 0, 2] · slices_S16x20000x4_S16x20000x2_0_0_2),
    nullary main_cst_4 (constant S_ .f32 0x40000000#32),
    unary main_cst_4 main_v60 (broadcastInDim S16x20000x2 ![] bcast_S_S16x20000x2),
    binary main_v59 main_v60 main_v61 Host.divf,
    binary main_v58 main_v61 main_v62 addf,
    binary main_v57 main_v62 main_v63 (fun a b => concatenate S16x20000x4 2 [⟨S16x20000x2, a⟩, ⟨S16x20000x2, b⟩] concatenates_S16x20000x2_S16x20000x2_S16x20000x4_d2),
    nullary main_cst_5 (constant S_ .f32 0x00000000#32),
    nullary main_cst_6 (constant S_ .f32 0x3F800000#32),
    TRef.unary (.of main_cst_5) main_call0.v0 id,
    TRef.unary main_call0.v0 main_call0.v1 (broadcastInDim S16x20000x4 ![] bcast_S_S16x20000x4),
    TRef.binary main_call0.v1 (.of main_v63) main_call0.v2 maximumf,
    TRef.unary (.of main_cst_6) main_call0.v3 id,
    TRef.unary main_call0.v3 main_call0.v4 (broadcastInDim S16x20000x4 ![] bcast_S_S16x20000x4),
    TRef.binary main_call0.v4 main_call0.v2 main_call0.v5 minimumf ]

/-- The best class and its logit, and the mask. -/
abbrev opsD : List (HloOp τ sig (Elt F)) :=
  [ nullary main_cst_7 (constant S_ .f32 0xFF800000#32),
    binary main_v0 main_cst_7 main_v65 (fun x v => Host.reduce FloatOps.maximumf x v reducesTo_S16x20000x21_S16x20000_d2 h_S_),
    TRef.nullary main_call1.v0 (iotaInDim S16x20000x21 32 2),
    TRef.nullary main_call1.cst (constant S_ .f32 0xFF800000#32),
    TRef.nullary main_call1.c (constantI S_ 32 0#32),
    TRef.quaternary (.of main_v0) main_call1.v0 main_call1.cst main_call1.c main_call1.v1_0 (fun x y u v j => (Host.argReduce reducer_argmax_f32_i32 x y u v reducesTo_S16x20000x21_S16x20000_d2 h_S_ j).1),
    TRef.quaternary (.of main_v0) main_call1.v0 main_call1.cst main_call1.c main_call1.v1_1 (fun x y u v j => (Host.argReduce reducer_argmax_f32_i32 x y u v reducesTo_S16x20000x21_S16x20000_d2 h_S_ j).2),
    nullary main_c (constantI S_ 32 0#32),
    unary main_c main_v67 (broadcastInDim S16x20000 ![] bcast_S_S16x20000),
    binary main_v66 main_v67 main_v68 (cmpi .ne) ]

/-- The masked results and the count. -/
abbrev opsE : List (HloOp τ sig (Elt F)) :=
  [ unary main_v68 main_v69 (broadcastInDim S16x20000x1 ![0, 1] bcast_S16x20000_S16x20000x1_0_1),
    unary main_v69 main_v70 (uitofp .f32),
    unary main_v70 main_v71 (broadcastInDim S16x20000x4 ![0, 1, 2] bcast_S16x20000x1_S16x20000x4_0_1_2),
    binary main_v64 main_v71 main_v72 mulf,
    unary main_v68 main_v73 (uitofp .f32),
    binary main_v65 main_v73 main_v74 mulf,
    nullary main_c_8 (constantI S_ 32 0#32),
    TRef.unary (.of main_c_8) main_call2.v0 id,
    TRef.unary main_call2.v0 main_call2.v1 (broadcastInDim S16x20000 ![] bcast_S_S16x20000),
    TRef.ternary (.of main_v68) (.of main_v66) main_call2.v1 main_call2.v2 select,
    unary main_v68 main_v76 (extui 32 · natLt_1_32),
    nullary main_c_9 (constantI S_ 32 0#32),
    binary main_v76 main_c_9 main_v77 (fun x v => Host.reduce IntOp.addi x v reducesTo_S16x20000_S16_d1 h_S_) ]

/-- All of them, in order. -/
abbrev ops : List (HloOp τ sig (Elt F)) := opsA ++ (opsB ++ (opsC ++ (opsD ++ opsE)))

set_option maxHeartbeats 4000000 in
set_option maxRecDepth 10000 in
theorem main_eq (c : Dev nD) : main (F := F) c = seq ops := by
  simp only [main, main_part0, main_part1, fn_clip.body, fn_argmax.body, fn_where.body, ops, opsA, opsB, opsC, opsD, opsE,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., reshape_bufs_sub .., unary_bufs_sub .., reshape_bufs_sub ..,
    binary_bufs_sub .., nullary_bufs_sub .., unary_bufs_sub .., binary_bufs_sub .., unary_bufs_sub .., reshape_bufs_sub ..,
    unary_bufs_sub .., reshape_bufs_sub .., binary_bufs_sub .., nullary_bufs_sub .., unary_bufs_sub .., binary_bufs_sub ..,
    unary_bufs_sub .., reshape_bufs_sub .., unary_bufs_sub .., reshape_bufs_sub .., binary_bufs_sub .., unary_bufs_sub ..,
    reshape_bufs_sub .., unary_bufs_sub .., reshape_bufs_sub .., binary_bufs_sub .., unary_bufs_sub .., unary_bufs_sub ..,
    unary_bufs_sub .., unary_bufs_sub .., nary_bufs_sub .., unary_bufs_sub .., unary_bufs_sub .., nullary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., unary_bufs_sub .., unary_bufs_sub ..,
    binary_bufs_sub .., unary_bufs_sub .., unary_bufs_sub .., unary_bufs_sub .., unary_bufs_sub .., unary_bufs_sub ..,
    unary_bufs_sub .., binary_bufs_sub .., binary_bufs_sub .., unary_bufs_sub .., unary_bufs_sub .., nullary_bufs_sub ..,
    unary_bufs_sub .., binary_bufs_sub .., binary_bufs_sub .., unary_bufs_sub .., unary_bufs_sub .., nullary_bufs_sub ..,
    unary_bufs_sub .., binary_bufs_sub .., binary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., binary_bufs_sub .., nullary_bufs_sub .., nullary_bufs_sub .., nullary_bufs_sub .., quaternary_bufs_sub ..,
    quaternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    unary_bufs_sub .., ternary_bufs_sub .., unary_bufs_sub .., nullary_bufs_sub .., binary_bufs_sub ..⟩

theorem after_append (l₁ l₂ : List (HloOp τ sig (Elt F))) (V : Valuation τ sig (Elt F)) : after (l₁ ++ l₂) V = after l₂ (after l₁ V) := by
  induction l₁ generalizing V with
  | nil => rfl
  | cons op l₁ ih => exact ih _

/-! ## What each stretch leaves -/

theorem A_v30 (V : Valuation τ sig (Elt F)) : after opsA V (Proc.devRef .tc (main_v30 : Ref sig .tc)) = cform (V (Proc.devRef .tc (main_arg1 : Ref sig .tc))) := by
  after_results_simp
  rfl

theorem A_v0 (V : Valuation τ sig (Elt F)) : after opsA V (Proc.devRef .tc (main_v0 : Ref sig .tc)) = clsLg (V (Proc.devRef .tc (main_arg0 : Ref sig .tc))) := by
  after_results_simp
  rfl

theorem A_v1 (V : Valuation τ sig (Elt F)) : after opsA V (Proc.devRef .tc (main_v1 : Ref sig .tc)) = locLg (V (Proc.devRef .tc (main_arg0 : Ref sig .tc))) := by
  after_results_simp
  rfl

theorem B_v52 (V : Valuation τ sig (Elt F)) : after opsB V (Proc.devRef .tc (main_v52 : Ref sig .tc)) = decoded (V (Proc.devRef .tc (main_v1 : Ref sig .tc))) (V (Proc.devRef .tc (main_v30 : Ref sig .tc))) := by
  after_results_simp
  rfl

theorem C_v64 (V : Valuation τ sig (Elt F)) : after opsC V (Proc.devRef .tc (main_v64 : Ref sig .tc)) = clipped (V (Proc.devRef .tc (main_v52 : Ref sig .tc))) := by
  after_results_simp
  rfl

theorem D_v65 (V : Valuation τ sig (Elt F)) : after opsD V (Proc.devRef .tc (main_v65 : Ref sig .tc)) = top (V (Proc.devRef .tc (main_v0 : Ref sig .tc))) := by
  after_results_simp
  rfl

theorem D_v66 (V : Valuation τ sig (Elt F)) : after opsD V (Proc.devRef .tc (main_v66 : Ref sig .tc)) = arg (V (Proc.devRef .tc (main_v0 : Ref sig .tc))) := by
  after_results_simp
  rfl

theorem D_v68 (V : Valuation τ sig (Elt F)) : after opsD V (Proc.devRef .tc (main_v68 : Ref sig .tc)) = mask (V (Proc.devRef .tc (main_v0 : Ref sig .tc))) := by
  after_results_simp
  rfl

theorem D_v64 (V : Valuation τ sig (Elt F)) : after opsD V (Proc.devRef .tc (main_v64 : Ref sig .tc)) = V (Proc.devRef .tc (main_v64 : Ref sig .tc)) := by
  simp only [after_cons, after_nil]
  rfl

theorem E_v72 (V : Valuation τ sig (Elt F)) : after opsE V (Proc.devRef .tc (main_v72 : Ref sig .tc)) = maskBoxes (V (Proc.devRef .tc (main_v68 : Ref sig .tc))) (V (Proc.devRef .tc (main_v64 : Ref sig .tc))) := by
  after_results_simp
  rfl

theorem E_v74 (V : Valuation τ sig (Elt F)) : after opsE V (Proc.devRef .tc (main_v74 : Ref sig .tc)) = maskTop (V (Proc.devRef .tc (main_v68 : Ref sig .tc))) (V (Proc.devRef .tc (main_v65 : Ref sig .tc))) := by
  after_results_simp
  rfl

theorem E_v75 (V : Valuation τ sig (Elt F)) : after opsE V (Proc.devRef .tc (main_v75 : Ref sig .tc)) = maskArg (V (Proc.devRef .tc (main_v68 : Ref sig .tc))) (V (Proc.devRef .tc (main_v66 : Ref sig .tc))) := by
  after_results_simp
  rfl

theorem E_v77 (V : Valuation τ sig (Elt F)) : after opsE V (Proc.devRef .tc (main_v77 : Ref sig .tc)) = tally (V (Proc.devRef .tc (main_v68 : Ref sig .tc))) := by
  after_results_simp
  rfl

theorem B_v0 (V : Valuation τ sig (Elt F)) : after opsB V (Proc.devRef .tc (main_v0 : Ref sig .tc)) = V (Proc.devRef .tc (main_v0 : Ref sig .tc)) := by
  simp only [after_cons, after_nil]
  rfl

theorem C_v0 (V : Valuation τ sig (Elt F)) : after opsC V (Proc.devRef .tc (main_v0 : Ref sig .tc)) = V (Proc.devRef .tc (main_v0 : Ref sig .tc)) := by
  simp only [after_cons, after_nil]
  rfl

theorem A_arg0 (V : Valuation τ sig (Elt F)) : after opsA V (Proc.devRef .tc (main_arg0 : Ref sig .tc)) = V (Proc.devRef .tc (main_arg0 : Ref sig .tc)) := by
  simp only [after_cons, after_nil]
  rfl

theorem A_arg1 (V : Valuation τ sig (Elt F)) : after opsA V (Proc.devRef .tc (main_arg1 : Ref sig .tc)) = V (Proc.devRef .tc (main_arg1 : Ref sig .tc)) := by
  simp only [after_cons, after_nil]
  rfl

theorem B_arg0 (V : Valuation τ sig (Elt F)) : after opsB V (Proc.devRef .tc (main_arg0 : Ref sig .tc)) = V (Proc.devRef .tc (main_arg0 : Ref sig .tc)) := by
  simp only [after_cons, after_nil]
  rfl

theorem B_arg1 (V : Valuation τ sig (Elt F)) : after opsB V (Proc.devRef .tc (main_arg1 : Ref sig .tc)) = V (Proc.devRef .tc (main_arg1 : Ref sig .tc)) := by
  simp only [after_cons, after_nil]
  rfl

theorem C_arg0 (V : Valuation τ sig (Elt F)) : after opsC V (Proc.devRef .tc (main_arg0 : Ref sig .tc)) = V (Proc.devRef .tc (main_arg0 : Ref sig .tc)) := by
  simp only [after_cons, after_nil]
  rfl

theorem C_arg1 (V : Valuation τ sig (Elt F)) : after opsC V (Proc.devRef .tc (main_arg1 : Ref sig .tc)) = V (Proc.devRef .tc (main_arg1 : Ref sig .tc)) := by
  simp only [after_cons, after_nil]
  rfl

theorem D_arg0 (V : Valuation τ sig (Elt F)) : after opsD V (Proc.devRef .tc (main_arg0 : Ref sig .tc)) = V (Proc.devRef .tc (main_arg0 : Ref sig .tc)) := by
  simp only [after_cons, after_nil]
  rfl

theorem D_arg1 (V : Valuation τ sig (Elt F)) : after opsD V (Proc.devRef .tc (main_arg1 : Ref sig .tc)) = V (Proc.devRef .tc (main_arg1 : Ref sig .tc)) := by
  simp only [after_cons, after_nil]
  rfl

theorem E_arg0 (V : Valuation τ sig (Elt F)) : after opsE V (Proc.devRef .tc (main_arg0 : Ref sig .tc)) = V (Proc.devRef .tc (main_arg0 : Ref sig .tc)) := by
  simp only [after_cons, after_nil]
  rfl

theorem E_arg1 (V : Valuation τ sig (Elt F)) : after opsE V (Proc.devRef .tc (main_arg1 : Ref sig .tc)) = V (Proc.devRef .tc (main_arg1 : Ref sig .tc)) := by
  simp only [after_cons, after_nil]
  rfl

/-! ## The whole run -/

section
variable (V : Valuation τ sig (Elt F))

theorem boxes_eq : after ops V (Proc.devRef .tc (main_v72 : Ref sig .tc)) = boxes (V (Proc.devRef .tc (main_arg0 : Ref sig .tc))) (V (Proc.devRef .tc (main_arg1 : Ref sig .tc))) := by
  rw [ops, after_append, after_append, after_append, after_append, E_v72, D_v68, D_v64, C_v64, C_v0, B_v52, B_v0, A_v0, A_v1, A_v30]
  rfl

theorem scores_eq : after ops V (Proc.devRef .tc (main_v74 : Ref sig .tc)) = scores (V (Proc.devRef .tc (main_arg0 : Ref sig .tc))) := by
  rw [ops, after_append, after_append, after_append, after_append, E_v74, D_v68, D_v65, C_v0, B_v0, A_v0]
  rfl

theorem classes_eq : after ops V (Proc.devRef .tc (main_v75 : Ref sig .tc)) = classes (V (Proc.devRef .tc (main_arg0 : Ref sig .tc))) := by
  rw [ops, after_append, after_append, after_append, after_append, E_v75, D_v68, D_v66, C_v0, B_v0, A_v0]
  rfl

theorem number_eq : after ops V (Proc.devRef .tc (main_v77 : Ref sig .tc)) = number (V (Proc.devRef .tc (main_arg0 : Ref sig .tc))) := by
  rw [ops, after_append, after_append, after_append, after_append, E_v77, D_v68, C_v0, B_v0, A_v0]
  rfl

theorem arg0_eq : after ops V (Proc.devRef .tc (main_arg0 : Ref sig .tc)) = V (Proc.devRef .tc (main_arg0 : Ref sig .tc)) := by
  rw [ops, after_append, after_append, after_append, after_append, E_arg0, D_arg0, C_arg0, B_arg0, A_arg0]

theorem arg1_eq : after ops V (Proc.devRef .tc (main_arg1 : Ref sig .tc)) = V (Proc.devRef .tc (main_arg1 : Ref sig .tc)) := by
  rw [ops, after_append, after_append, after_append, after_append, E_arg1, D_arg1, C_arg1, B_arg1, A_arg1]

end

/-- Every weakly fair execution of the reference terminates with its four results the terms of its two arguments, which it
    leaves alone. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v72) = boxes (m ((c.tc : Thread nD τ).loc main_arg0)) (m ((c.tc : Thread nD τ).loc main_arg1))
        ∧ r.2.mem ((c.tc : Thread nD τ).loc main_v74) = scores (m ((c.tc : Thread nD τ).loc main_arg0))
        ∧ r.2.mem ((c.tc : Thread nD τ).loc main_v75) = classes (m ((c.tc : Thread nD τ).loc main_arg0))
        ∧ r.2.mem ((c.tc : Thread nD τ).loc main_v77) = number (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v72).trans (boxes_eq _), (h c main_v74).trans (scores_eq _), (h c main_v75).trans (classes_eq _),
      (h c main_v77).trans (number_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.Proof.Ref

end
-- ==== Proof.Best.lean ====
/-
  The largest of a list of values together with the smallest number it is found at. The kernel keeps it class by class
  (`Row.best`); the reference folds an arg-max over the classes, in an order that is not said. Both give the one pair that
  is among the pairs and beats each of them (`Beats`), so they agree. At the extended reals.
-/
module

public import proofs.«01_k».proof.Proof.Row
public import proofs.«01_k».proof.Proof.Ref
public import Idealize.ShloMosaic.PureOps.Ideal.Laws
public import Idealize.ShloMosaic.PureOps.Reduce

@[expose] public section

namespace Cert.Proof.Value

open Idealize.ShloMosaic
open Cert.Proof.Row

/-! ## Which pair wins -/

/-- `r` beats `p`: its value is larger, or the same at a number no larger. -/
def Beats (p r : EReal × BitVec 32) : Prop := p.1 < r.1 ∨ (p.1 = r.1 ∧ r.2.toNat ≤ p.2.toNat)

theorem Beats.refl (p : EReal × BitVec 32) : Beats p p := .inr ⟨rfl, le_refl _⟩

theorem Beats.trans {p q r : EReal × BitVec 32} (h : Beats p q) (h' : Beats q r) : Beats p r := by
  rcases h with h | ⟨h, k⟩ <;> rcases h' with h' | ⟨h', k'⟩
  · exact .inl (h.trans h')
  · exact .inl (h' ▸ h)
  · exact .inl (h ▸ h')
  · exact .inr ⟨h.trans h', k'.trans k⟩

theorem Beats.antisymm {p q : EReal × BitVec 32} (h : Beats p q) (h' : Beats q p) : p = q := by
  rcases h with h | ⟨h, k⟩ <;> rcases h' with h' | ⟨h', k'⟩
  · exact absurd (h.trans h') (lt_irrefl _)
  · exact absurd h (h' ▸ lt_irrefl _)
  · exact absurd h' (h ▸ lt_irrefl _)
  · exact Prod.ext h (BitVec.eq_of_toNat_eq (le_antisymm k' k))

/-! ## The reference's choice between two pairs -/

theorem slt_iff {a b : BitVec 32} (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]
  omega

theorem choose_eq (a b : EReal × BitVec 32) (ha : a.2.toNat < 2 ^ 31) (hb : b.2.toNat < 2 ^ 31) :
    (Cert.ReferenceIdeal.reducer_argmax_f32_i32 (F := Ideal) a b = a ∧ Beats b a)
      ∨ (Cert.ReferenceIdeal.reducer_argmax_f32_i32 (F := Ideal) a b = b ∧ Beats a b) := by
  have hs := slt_iff ha hb
  obtain ⟨a1, a2⟩ := a
  obtain ⟨b1, b2⟩ := b
  unfold Cert.ReferenceIdeal.reducer_argmax_f32_i32
  simp only [Ideal.cmpf_def, Ideal.cmp, IntOp.ori, IntOp.andi, IntOp.cmpi, Scalar.select, Beats] at hs ha hb ⊢
  rcases lt_trichotomy a1 b1 with h | h | h
  · right
    simp [h, h.le.not_gt, h.ne]
  · subst h
    by_cases hlt : a2.slt b2 = true
    · left
      simp [hlt, (hs.1 hlt).le]
    · right
      have : b2.toNat ≤ a2.toNat := not_lt.1 fun h => hlt (hs.2 h)
      simp [Bool.not_eq_true _ ▸ hlt, this]
  · left
    simp [h, h.ne']

/-- The arg-max fold's result is among the pairs and beats each. -/
theorem fold_choose (l : List (EReal × BitVec 32)) (s : EReal × BitVec 32) (hs : s.2.toNat < 2 ^ 31)
    (hl : ∀ p ∈ l, p.2.toNat < 2 ^ 31) :
    l.foldl (Cert.ReferenceIdeal.reducer_argmax_f32_i32 (F := Ideal)) s ∈ s :: l
      ∧ ∀ p ∈ s :: l, Beats p (l.foldl (Cert.ReferenceIdeal.reducer_argmax_f32_i32 (F := Ideal)) s) := by
  induction l generalizing s with
  | nil => exact ⟨List.mem_cons_self, fun p hp => List.mem_singleton.1 hp ▸ Beats.refl _⟩
  | cons q l ih =>
    have hq := hl q List.mem_cons_self
    have hl' : ∀ p ∈ l, p.2.toNat < 2 ^ 31 := fun p hp => hl p (List.mem_cons_of_mem _ hp)
    rw [List.foldl_cons]
    rcases choose_eq s q hs hq with ⟨e, hb⟩ | ⟨e, hb⟩
    · rw [e]
      obtain ⟨hm, hB⟩ := ih s hs hl'
      refine ⟨?_, fun p hp => ?_⟩
      · rcases List.mem_cons.1 hm with h | h
        · exact List.mem_cons.2 (.inl h)
        · exact List.mem_cons_of_mem _ (List.mem_cons_of_mem _ h)
      · rcases List.mem_cons.1 hp with rfl | hp
        · exact hB _ List.mem_cons_self
        · rcases List.mem_cons.1 hp with rfl | hp
          · exact hb.trans (hB _ List.mem_cons_self)
          · exact hB _ (List.mem_cons_of_mem _ hp)
    · rw [e]
      obtain ⟨hm, hB⟩ := ih q hq hl'
      refine ⟨List.mem_cons_of_mem _ hm, fun p hp => ?_⟩
      rcases List.mem_cons.1 hp with rfl | hp
      · exact hb.trans (hB _ List.mem_cons_self)
      · exact hB _ hp

/-- A fold of the larger value is among the values and bounds each. -/
theorem fold_max (l : List EReal) (s : EReal) : l.foldl max s ∈ s :: l ∧ ∀ v ∈ s :: l, v ≤ l.foldl max s := by
  induction l generalizing s with
  | nil => exact ⟨List.mem_cons_self, fun v hv => (List.mem_singleton.1 hv).le⟩
  | cons q l ih =>
    rw [List.foldl_cons]
    obtain ⟨hm, hB⟩ := ih (max s q)
    have h0 := hB _ List.mem_cons_self
    refine ⟨?_, fun v hv => ?_⟩
    · rcases List.mem_cons.1 hm with h | h
      · rw [h]
        rcases max_choice s q with e | e <;> rw [e] <;> simp
      · exact List.mem_cons_of_mem _ (List.mem_cons_of_mem _ h)
    · rcases List.mem_cons.1 hv with rfl | hv
      · exact (le_max_left _ _).trans h0
      · rcases List.mem_cons.1 hv with rfl | hv
        · exact (le_max_right _ _).trans h0
        · exact hB _ (List.mem_cons_of_mem _ hv)

/-! ## The kernel's running pair -/

theorem best_spec (x : Nat → EReal) (c : Nat) :
    ∃ k ≤ c, best (F := Ideal) x c = (x (k + 4), BitVec.ofNat 32 k) ∧ (∀ i ≤ c, x (i + 4) ≤ x (k + 4)) ∧ ∀ i < k, x (i + 4) < x (k + 4) := by
  induction c with
  | zero =>
    refine ⟨0, le_refl _, rfl, fun i hi => ?_, fun i hi => absurd hi (by omega)⟩
    rw [Nat.le_zero.1 hi]
  | succ c ih =>
    obtain ⟨k, hk, e, hle, hlt⟩ := ih
    by_cases h : x (k + 4) < x (c + 5)
    · refine ⟨c + 1, le_refl _, ?_, fun i hi => ?_, fun i hi => ?_⟩
      · simp only [best, e, Ideal.cmpf_def, Ideal.cmp, Scalar.select]
        simp [h]
      · rcases Nat.lt_or_ge c i with h' | h'
        · rw [show i = c + 1 by omega]
        · exact (hle i h').trans h.le
      · exact (hle i (by omega)).trans_lt h
    · refine ⟨k, by omega, ?_, fun i hi => ?_, hlt⟩
      · simp only [best, e, Ideal.cmpf_def, Ideal.cmp, Scalar.select]
        simp [h]
      · rcases Nat.lt_or_ge c i with h' | h'
        · rw [show i = c + 1 by omega]
          exact not_lt.1 h
        · exact hle i h'

/-- A class's pair: its logit and its number. -/
def pair (x : Nat → EReal) (k : Nat) : EReal × BitVec 32 := (x (k + 4), BitVec.ofNat 32 k)

theorem toNat_ofNat {k : Nat} (h : k ≤ 20) : (BitVec.ofNat 32 k).toNat = k := by
  rw [BitVec.toNat_ofNat, Nat.mod_eq_of_lt (by omega)]

/-- The kernel's pair is a class's, and beats every class's and the reference's start. -/
theorem best_beats (x : Nat → EReal) :
    (∃ k ≤ 20, best (F := Ideal) x 20 = pair x k) ∧ (∀ k ≤ 20, Beats (pair x k) (best (F := Ideal) x 20)) ∧ Beats (⊥, 0#32) (best (F := Ideal) x 20) := by
  obtain ⟨k, hk, e, hle, hlt⟩ := best_spec x 20
  rw [e]
  refine ⟨⟨k, hk, rfl⟩, fun i hi => ?_, ?_⟩
  · rcases (hle i hi).lt_or_eq with h | h
    · exact .inl h
    · refine .inr ⟨h, ?_⟩
      show (BitVec.ofNat 32 k).toNat ≤ (BitVec.ofNat 32 i).toNat
      rw [toNat_ofNat hk, toNat_ofNat hi]
      by_contra hc
      exact absurd (hlt i (by omega)) (h ▸ lt_irrefl _)
  · rcases (bot_le : ⊥ ≤ x (k + 4)).lt_or_eq with h | h
    · exact .inl h
    · refine .inr ⟨h, ?_⟩
      show (BitVec.ofNat 32 k).toNat ≤ 0
      rw [toNat_ofNat hk]
      by_contra hc
      exact absurd (hlt 0 (by omega)) (h ▸ not_lt_bot)

/-- Over any list of exactly the classes' pairs, the reference's arg-max from its start is the kernel's pair. -/
theorem fold_choose_eq (x : Nat → EReal) (l : List (EReal × BitVec 32)) (hl : ∀ p, p ∈ l ↔ ∃ k ≤ 20, p = pair x k) :
    l.foldl (Cert.ReferenceIdeal.reducer_argmax_f32_i32 (F := Ideal)) (⊥, 0#32) = best (F := Ideal) x 20 := by
  obtain ⟨hk, hb, h0⟩ := best_beats x
  obtain ⟨hm, hB⟩ := fold_choose l (⊥, 0#32) (by decide) fun p hp => by
    obtain ⟨k, hk, rfl⟩ := (hl p).1 hp
    show (BitVec.ofNat 32 k).toNat < _
    rw [toNat_ofNat hk]
    omega
  refine Beats.antisymm ?_ (hB _ (List.mem_cons_of_mem _ ((hl _).2 hk)))
  rcases List.mem_cons.1 hm with h | h
  · rw [h]
    exact h0
  · obtain ⟨k, hk, e⟩ := (hl _).1 h
    exact e ▸ hb k hk

/-- And the largest logit is that pair's. -/
theorem fold_max_eq (x : Nat → EReal) (l : List EReal) (hl : ∀ v, v ∈ l ↔ ∃ k ≤ 20, v = x (k + 4)) :
    l.foldl max ⊥ = (best (F := Ideal) x 20).1 := by
  obtain ⟨k, hk, e, hle, -⟩ := best_spec x 20
  obtain ⟨hm, hB⟩ := fold_max l ⊥
  rw [e]
  refine le_antisymm ?_ (hB _ (List.mem_cons_of_mem _ ((hl _).2 ⟨k, hk, rfl⟩)))
  rcases List.mem_cons.1 hm with h | h
  · rw [h]; exact bot_le
  · obtain ⟨i, hi, e⟩ := (hl _).1 h
    rw [e]
    exact hle i hi

end Cert.Proof.Value
-- ==== Proof.Rows.lean ====
/-
  The two arguments read by rows: row `(b, r)` of the logits is row `20000 b + r` of the flat logits, and row `r` of the
  default boxes is the one every such row uses. And the constants' values.
-/
module

public import proofs.«01_k».proof.Proof.Spec
public import proofs.«01_k».proof.Proof.ILaunch
public import Idealize.ShloMosaic.Lib.Pointwise

@[expose] public section

noncomputable section

namespace Cert.Proof.Value

open Idealize.ShloMosaic
open Cert.Proof.Row
open Cert.KernelIdeal (S16x20000x25 S8000000 S20000x4 S80000)

/-- The flat arguments. -/
abbrev flatX (x : FVec Ideal S16x20000x25 .f32) : FVec Ideal S8000000 .f32 :=
  shapeCast S8000000 x Cert.KernelIdeal.Gen.shapeCasts_S16x20000x25_S8000000
abbrev flatY (y : FVec Ideal S20000x4 .f32) : FVec Ideal S80000 .f32 :=
  shapeCast S80000 y Cert.KernelIdeal.Gen.shapeCasts_S20000x4_S80000

theorem lgRow_flat (x : FVec Ideal S16x20000x25 .f32) (b : Fin 16) (r : Fin 20000) (k : Fin 25) :
    lgRow (flatX x) (20000 * b.val + r.val) k.val = x (ix3 b r k) := by
  show flatX x (pos 8000000 (25 * (20000 * b.val + r.val) + k.val)) = _
  refine shapeCast_apply x _ _ _ ?_
  rw [Shape.rowMajor_val_one, Shape.rowMajor_val_three, pos_val (by omega)]
  show (b.val * 20000 + r.val) * 25 + k.val = _
  omega

theorem anRow_flat (y : FVec Ideal S20000x4 .f32) (b : Fin 16) (r : Fin 20000) (k : Fin 4) :
    anRow (flatY y) (20000 * b.val + r.val) k.val = y (ix2 r k) := by
  show flatY y (pos 80000 (4 * ((20000 * b.val + r.val) % 20000) + k.val)) = _
  refine shapeCast_apply y _ _ _ ?_
  rw [Shape.rowMajor_val_one, Shape.rowMajor_val_two, pos_val (by omega)]
  show r.val * 4 + k.val = _
  omega

theorem half_eq : (half : Ideal .f32) = (((1 / 2 : ℝ) : ℝ) : EReal) := by
  simp [half, Scalar.ofBits, Ideal.ofBits, Ideal.ieee, -EReal.coe_mul]; norm_num
theorem one_eq : (one : Ideal .f32) = (1 : EReal) := by
  simp [one, Scalar.ofBits, Ideal.ofBits, Ideal.ieee, -EReal.coe_mul]; norm_num
theorem zero_eq : (zero : Ideal .f32) = (0 : EReal) := by
  simp [zero, Scalar.ofBits, Ideal.ofBits, Ideal.ieee, -EReal.coe_mul]
theorem two_eq : (Ideal.ofBits .f32 0x40000000#32 : EReal) = ((2 : ℝ) : EReal) := by
  simp [Ideal.ofBits, Ideal.ieee, -EReal.coe_mul]; norm_num
theorem bot_eq : (Ideal.ofBits .f32 0xFF800000#32 : EReal) = ⊥ := by
  simp [Ideal.ofBits, Ideal.ieee, -EReal.coe_mul]

/-- Dividing by two is multiplying by the half. -/
theorem div_two (x : EReal) : Ideal.div x ((2 : ℝ) : EReal) = x * (half : Ideal .f32) := by
  rw [half_eq]
  simp [Ideal.div, EReal.coe_inv]

/-- A mask bit as a float, converted as it stands or through a word. -/
theorem bit_flt (k : BitVec 1) : (FloatOps.uitofp .f32 k : Ideal .f32) = FloatOps.sitofp .f32 (k.setWidth 32) := by
  rcases (by decide : ∀ k : BitVec 1, k = 0#1 ∨ k = 1#1) k with rfl | rfl
  · show (((0#1).toNat : ℝ) : EReal) = (((0#32).toInt : ℝ) : EReal)
    simp
  · show (((1#1).toNat : ℝ) : EReal) = (((1#32).toInt : ℝ) : EReal)
    norm_num [show (1#32).toInt = 1 from rfl]

end Cert.Proof.Value

end
-- ==== Proof.Mask.lean ====
/-
  The reference's best class and its logit at a row are the kernel's (`arg_row`, `top_row`), whatever order its folds take;
  so its mask is the kernel's, and with it the scores and the class numbers.
-/
module

public import proofs.«01_k».proof.Proof.Best
public import proofs.«01_k».proof.Proof.Rows

@[expose] public section

noncomputable section

namespace Cert.Proof.Value

open Idealize.ShloMosaic
open Cert.Proof.Row
open Cert.KernelIdeal (S16x20000x25 S8000000 S20000x4 S80000 S16x20000 S320000 S16x20000x4 S1280000)

variable (x : FVec Ideal S16x20000x25 .f32)

/-- The reference's row, as the kernel numbers it. -/
abbrev row (b : Fin 16) (r : Fin 20000) : Nat → EReal := lgRow (F := Ideal) (flatX x) (20000 * b.val + r.val)

theorem clsLg_row (b : Fin 16) (r : Fin 20000) (k : Fin 21) : Ref.clsLg x (ix3 b r k) = row x b r (k.val + 4) := by
  rw [row, show k.val + 4 = (⟨k.val + 4, by omega⟩ : Fin 25).val from rfl, lgRow_flat]
  refine extractStridedSlice_apply _ _ _ _ _ fun a => ?_
  match a with
  | ⟨0, _⟩ => exact (Nat.zero_add _).symm
  | ⟨1, _⟩ => exact (Nat.zero_add _).symm
  | ⟨2, _⟩ => exact Nat.add_comm _ _

/-- What drops to row `(b, r)` when the classes are folded: its class entries. -/
theorem drop_iff (b : Fin 16) (r : Fin 20000) (i : Cert.ReferenceIdeal.S16x20000x21.Idx) :
    Cert.ReferenceIdeal.Gen.reducesTo_S16x20000x21_S16x20000_d2.drop i = ix2 b r ↔ ∃ k : Fin 21, ix3 b r k = i :=
  Shape.ReducesTo.fiber_r3_a2 Cert.ReferenceIdeal.Gen.reducesTo_S16x20000x21_S16x20000_d2 (ix2 b r) i

/-- The pairs an arg-max folds over, and the values a one-operand fold runs over, whatever their order. -/
theorem mem_fiber {s t : Shape} {axes : List (Fin s.rank)} {α β : Type} (f : s.Idx → α) (g : s.Idx → β) (h : s.ReducesTo axes t) (j : t.Idx)
    (p : α × β) : p ∈ Host.argReduceFiber f g h j ↔ ∃ i, h.drop i = j ∧ p = (f i, g i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩ <;> rw [Equiv.symm_apply_apply]
    exact hi

theorem mem_values {s t : Shape} {axes : List (Fin s.rank)} {α : Type} (f : s.Idx → α) (h : s.ReducesTo axes t) (j : t.Idx) (v : α) :
    v ∈ (((List.finRange s.numel).map s.rowMajor.symm).filter fun i => h.drop i = j).map f ↔ ∃ i, h.drop i = j ∧ v = f i := by
  rw [List.mem_map]
  constructor
  · rintro ⟨i, hi, rfl⟩
    exact ⟨i, of_decide_eq_true (List.mem_filter.1 hi).2, rfl⟩
  · rintro ⟨i, hi, rfl⟩
    exact ⟨i, List.mem_filter.2 ⟨List.mem_map.2 ⟨s.rowMajor i, List.mem_finRange _, Equiv.symm_apply_apply _ _⟩, decide_eq_true hi⟩, rfl⟩

theorem reduce_eq_map {s t u : Shape} {axes : List (Fin s.rank)} {α : Type} (op : α → α → α) (f : s.Idx → α) (init : u.Idx → α)
    (h : s.ReducesTo axes t) (hu : 0 < u.numel) (j : t.Idx) :
    Host.reduce op f init h hu j
      = ((((List.finRange s.numel).map s.rowMajor.symm).filter fun i => h.drop i = j).map f).foldl op (init (Shape.Idx.first hu)) := by
  rw [Host.reduce_eq_foldl, List.foldl_map]

theorem constant_bot {u : Shape} (i : u.Idx) : (constant u .f32 0xFF800000#32 : FVec Ideal u .f32) i = (⊥ : EReal) := bot_eq

/-! The arg-max of a row, and its largest value, over any index shape: what drops to `j` is `e` of the 21 classes. -/
section
variable {s t u : Shape} {axes : List (Fin s.rank)} (f : FVec Ideal s .f32) (ix : FVec Ideal u .f32) (h : s.ReducesTo axes t) (hu : 0 < u.numel)
  (j : t.Idx) (y : Nat → EReal) (e : Fin 21 → s.Idx) (hx : ix (Shape.Idx.first hu) = (⊥ : EReal)) (hd : ∀ i, h.drop i = j ↔ ∃ k, e k = i)
  (hf : ∀ k, f (e k) = y (k.val + 4))
include hx hd hf

theorem argReduce_best (g : IVec s 32) (iy : IVec u 32) (hy : iy (Shape.Idx.first hu) = 0#32) (hg : ∀ k, g (e k) = BitVec.ofNat 32 k.val) :
    (Host.argReduce (Cert.ReferenceIdeal.reducer_argmax_f32_i32 (F := Ideal)) f g ix iy h hu j).2 = cls (F := Ideal) y := by
  unfold cls
  rw [Ideal.argReduce_eq_reduce2, Host.reduce2_eq_foldl_fiber, hx, hy, fold_choose_eq y]
  intro p
  rw [mem_fiber]
  constructor
  · rintro ⟨i, hi, rfl⟩
    obtain ⟨k, rfl⟩ := (hd _).1 hi
    exact ⟨k.val, by omega, Prod.ext (hf k) (hg k)⟩
  · rintro ⟨k, hk, rfl⟩
    exact ⟨e ⟨k, by omega⟩, (hd _).2 ⟨_, rfl⟩, Prod.ext (hf ⟨k, by omega⟩).symm (hg ⟨k, by omega⟩).symm⟩

theorem reduce_best : Host.reduce FloatOps.maximumf f ix h hu j = (best (F := Ideal) y 20).1 := by
  rw [reduce_eq_map, hx]
  refine fold_max_eq y _ fun v => ?_
  rw [mem_values]
  constructor
  · rintro ⟨i, hi, rfl⟩
    obtain ⟨k, rfl⟩ := (hd _).1 hi
    exact ⟨k.val, by omega, hf k⟩
  · rintro ⟨k, hk, rfl⟩
    exact ⟨e ⟨k, by omega⟩, (hd _).2 ⟨_, rfl⟩, (hf ⟨k, by omega⟩).symm⟩
end

theorem iota_row (b : Fin 16) (r : Fin 20000) (k : Fin 21) :
    iotaInDim Cert.ReferenceIdeal.S16x20000x21 32 2 (ix3 b r k) = BitVec.ofNat 32 k.val := rfl

theorem start_row (i : Cert.ReferenceIdeal.S_.Idx) : constantI Cert.ReferenceIdeal.S_ 32 0#32 i = 0#32 := rfl

/-- The reference's operations at an index. -/
theorem arg_def {F : FTy → Type} [FloatOps F] (c : FVec F Cert.ReferenceIdeal.S16x20000x21 .f32) :
    Ref.arg c = fun j => (Host.argReduce Cert.ReferenceIdeal.reducer_argmax_f32_i32 c
      (iotaInDim Cert.ReferenceIdeal.S16x20000x21 32 2) (constant Cert.ReferenceIdeal.S_ .f32 0xFF800000#32) (constantI Cert.ReferenceIdeal.S_ 32 0#32)
      Cert.ReferenceIdeal.Gen.reducesTo_S16x20000x21_S16x20000_d2 Cert.ReferenceIdeal.Gen.h_S_ j).2 := by
  unfold Ref.arg
  rfl

section
variable {F : FTy → Type} [FloatOps F] (k : IVec Cert.ReferenceIdeal.S16x20000 1) (j : Cert.ReferenceIdeal.S16x20000.Idx)

theorem maskTop_apply (t : FVec F Cert.ReferenceIdeal.S16x20000 .f32) : Ref.maskTop k t j = FloatOps.mulf (t j) (FloatOps.uitofp .f32 (k j)) := rfl
theorem maskArg_apply (a : IVec Cert.ReferenceIdeal.S16x20000 32) : Ref.maskArg k a j = Scalar.select (k j) (a j) 0#32 := rfl
theorem ne_apply (a : IVec Cert.ReferenceIdeal.S16x20000 32) :
    cmpi .ne a (broadcastInDim Cert.ReferenceIdeal.S16x20000 ![] Cert.ReferenceIdeal.Gen.bcast_S_S16x20000 (constantI Cert.ReferenceIdeal.S_ 32 0#32)) j
      = IntOp.cmpi .ne (a j) 0#32 := rfl
end

theorem arg_row (b : Fin 16) (r : Fin 20000) : Ref.arg (Ref.clsLg x) (ix2 b r) = cls (F := Ideal) (row x b r) := by
  rw [arg_def]
  exact argReduce_best (Ref.clsLg x) _ _ _ (ix2 b r) (row x b r) (fun k => ix3 b r k) (constant_bot _) (drop_iff b r) (clsLg_row x b r) _ _
    (start_row _) (iota_row b r)

theorem top_row (b : Fin 16) (r : Fin 20000) : Ref.top (Ref.clsLg x) (ix2 b r) = (best (F := Ideal) (row x b r) 20).1 :=
  reduce_best (Ref.clsLg x) _ _ _ (ix2 b r) (row x b r) (fun k => ix3 b r k) (constant_bot _) (drop_iff b r) (clsLg_row x b r)

theorem mask_row (b : Fin 16) (r : Fin 20000) : Ref.mask (Ref.clsLg x) (ix2 b r) = mbit (F := Ideal) (row x b r) := by
  unfold Ref.mask mbit
  rw [ne_apply, arg_row]

/-- A rank-two index is its two coordinates. -/
theorem exists_ix2 (j : S16x20000.Idx) : ∃ (b : Fin 16) (r : Fin 20000), j = ix2 b r := by
  refine ⟨j 0, j 1, ?_⟩
  funext a
  match a with
  | ⟨0, _⟩ => rfl
  | ⟨1, _⟩ => rfl

theorem flat2 {α : Type} (f : S320000.Idx → α) (b : Fin 16) (r : Fin 20000) :
    shapeCast S16x20000 f Cert.KernelIdeal.Gen.shapeCasts_S320000_S16x20000 (ix2 b r) = f (pos 320000 (20000 * b.val + r.val)) := by
  refine shapeCast_apply f _ _ _ ?_
  rw [Shape.rowMajor_val_one, Shape.rowMajor_val_two, pos_val (by omega)]
  show _ = b.val * 20000 + r.val
  omega

theorem scoreA_apply (X : FVec Ideal S8000000 .f32) {n : Nat} (h : n < 320000) : scoreA (F := Ideal) X (pos 320000 n) = score (F := Ideal) (lgRow (F := Ideal) X n) :=
  congrArg (fun k => score (F := Ideal) (lgRow (F := Ideal) X k)) (pos_val h 0)
theorem classA_apply (X : FVec Ideal S8000000 .f32) {n : Nat} (h : n < 320000) : classA (F := Ideal) X (pos 320000 n) = cls (F := Ideal) (lgRow (F := Ideal) X n) :=
  congrArg (fun k => cls (F := Ideal) (lgRow (F := Ideal) X k)) (pos_val h 0)

theorem scores_eq : shapeCast S16x20000 (scoreA (F := Ideal) (flatX x)) Cert.KernelIdeal.Gen.shapeCasts_S320000_S16x20000 = Ref.scores x := by
  funext j
  obtain ⟨b, r, rfl⟩ := exists_ix2 j
  unfold Ref.scores
  rw [flat2, scoreA_apply _ (by omega), maskTop_apply, top_row, mask_row, bit_flt]
  rfl

theorem classes_eq : shapeCast S16x20000 (classA (F := Ideal) (flatX x)) Cert.KernelIdeal.Gen.shapeCasts_S320000_S16x20000 = Ref.classes x := by
  funext j
  obtain ⟨b, r, rfl⟩ := exists_ix2 j
  unfold Ref.classes
  rw [flat2, classA_apply _ (by omega), maskArg_apply, mask_row, arg_row]
  unfold mbit Scalar.select IntOp.cmpi
  by_cases h : cls (F := Ideal) (row x b r) = 0#32
  · simp [h]
  · rw [if_pos (by rw [show (cls (F := Ideal) (row x b r) != 0#32) = true from bne_iff_ne.2 h]; rfl)]

end Cert.Proof.Value

end
-- ==== Proof.Boxes.lean ====
/-
  The decoded boxes: each corner the reference leaves at a row is the kernel's.
-/
module

public import proofs.«01_k».proof.Proof.Mask

@[expose] public section

noncomputable section

namespace Cert.Proof.Value

open Idealize.ShloMosaic
open Cert.Proof.Row
open Cert.KernelIdeal (S16x20000x25 S8000000 S20000x4 S80000 S16x20000 S320000 S16x20000x4 S1280000)

/-- One decoded corner, of a row's location logits and its default box's corners on one axis, before the mask: the low and the high. -/
def lowC (l e lo hi : EReal) : EReal :=
  clip (F := Ideal) (FloatOps.subf (F := Ideal) (φ := .f32) (centre (F := Ideal) l lo hi) (reach (F := Ideal) e lo hi))
def highC (l e lo hi : EReal) : EReal :=
  clip (F := Ideal) (FloatOps.addf (F := Ideal) (φ := .f32) (centre (F := Ideal) l lo hi) (reach (F := Ideal) e lo hi))

theorem lowC_eq (l e lo hi : EReal) : lowC l e lo hi
    = min 1 (max 0 (l * (hi - lo) + (hi + lo) * (half : Ideal .f32) - Ideal.exp e * (hi - lo) * (half : Ideal .f32))) := by
  unfold lowC clip centre reach
  rw [one_eq, zero_eq]
  rfl
theorem highC_eq (l e lo hi : EReal) : highC l e lo hi
    = min 1 (max 0 (l * (hi - lo) + (hi + lo) * (half : Ideal .f32) + Ideal.exp e * (hi - lo) * (half : Ideal .f32))) := by
  unfold highC clip centre reach
  rw [one_eq, zero_eq]
  rfl

section
variable (x : FVec Ideal Cert.ReferenceIdeal.S16x20000x4 .f32) (y : FVec Ideal S20000x4 .f32) (b : Fin 16) (r : Fin 20000)

theorem corner0 : Ref.clipped (Ref.decoded x (Ref.cform y)) (ix3 b r 0) = lowC (x (ix3 b r 0)) (x (ix3 b r 2)) (y (ix2 r 0)) (y (ix2 r 2)) := by
  unfold Ref.clipped Ref.decoded Ref.moved Ref.cform
  pointwise [Ref.two, Ref.two3, Ref.lo2, Ref.hi2, Ref.lo3, Ref.hi3, Ref.cat2, Ref.cat3, Ref.all4, Ref.all2, Ref.up, Ref.col0, Ref.col1, Ref.col2, Ref.col3]
  rw [lowC_eq, two_eq, div_two, div_two]

theorem corner1 : Ref.clipped (Ref.decoded x (Ref.cform y)) (ix3 b r 1) = lowC (x (ix3 b r 1)) (x (ix3 b r 3)) (y (ix2 r 1)) (y (ix2 r 3)) := by
  unfold Ref.clipped Ref.decoded Ref.moved Ref.cform
  pointwise [Ref.two, Ref.two3, Ref.lo2, Ref.hi2, Ref.lo3, Ref.hi3, Ref.cat2, Ref.cat3, Ref.all4, Ref.all2, Ref.up, Ref.col0, Ref.col1, Ref.col2, Ref.col3]
  rw [lowC_eq, two_eq, div_two, div_two]

theorem corner2 : Ref.clipped (Ref.decoded x (Ref.cform y)) (ix3 b r 2) = highC (x (ix3 b r 0)) (x (ix3 b r 2)) (y (ix2 r 0)) (y (ix2 r 2)) := by
  unfold Ref.clipped Ref.decoded Ref.moved Ref.cform
  pointwise [Ref.two, Ref.two3, Ref.lo2, Ref.hi2, Ref.lo3, Ref.hi3, Ref.cat2, Ref.cat3, Ref.all4, Ref.all2, Ref.up, Ref.col0, Ref.col1, Ref.col2, Ref.col3]
  rw [highC_eq, two_eq, div_two, div_two]

theorem corner3 : Ref.clipped (Ref.decoded x (Ref.cform y)) (ix3 b r 3) = highC (x (ix3 b r 1)) (x (ix3 b r 3)) (y (ix2 r 1)) (y (ix2 r 3)) := by
  unfold Ref.clipped Ref.decoded Ref.moved Ref.cform
  pointwise [Ref.two, Ref.two3, Ref.lo2, Ref.hi2, Ref.lo3, Ref.hi3, Ref.cat2, Ref.cat3, Ref.all4, Ref.all2, Ref.up, Ref.col0, Ref.col1, Ref.col2, Ref.col3]
  rw [highC_eq, two_eq, div_two, div_two]

end

variable (x : FVec Ideal S16x20000x25 .f32) (y : FVec Ideal S20000x4 .f32) (b : Fin 16) (r : Fin 20000)

theorem locLg_row (k : Fin 4) : Ref.locLg x (ix3 b r k) = row x b r k.val := by
  rw [row, show k.val = (⟨k.val, by omega⟩ : Fin 25).val from rfl, lgRow_flat]
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem maskBoxes_apply {F : FTy → Type} [FloatOps F] (k : IVec Cert.ReferenceIdeal.S16x20000 1) (c : FVec F Cert.ReferenceIdeal.S16x20000x4 .f32)
    (b : Fin 16) (r : Fin 20000) (j : Fin 4) : Ref.maskBoxes k c (ix3 b r j) = FloatOps.mulf (c (ix3 b r j)) (FloatOps.uitofp .f32 (k (ix2 b r))) := by
  unfold Ref.maskBoxes
  pointwise []

/-- The reference's row of default boxes, as the kernel numbers it. -/
abbrev arow : Nat → EReal := anRow (F := Ideal) (flatY y) (20000 * b.val + r.val)

theorem corner_row (j : Fin 4) :
    FloatOps.mulf (Ref.clipped (Ref.decoded (Ref.locLg x) (Ref.cform y)) (ix3 b r j)) (mflt (F := Ideal) (row x b r))
      = corner (F := Ideal) (row x b r) (arow y b r) j.val := by
  match j with
  | 0 =>
    rw [corner0, locLg_row, locLg_row, ← anRow_flat y b r, ← anRow_flat y b r]
    rfl
  | 1 =>
    rw [corner1, locLg_row, locLg_row, ← anRow_flat y b r, ← anRow_flat y b r]
    rfl
  | 2 =>
    rw [corner2, locLg_row, locLg_row, ← anRow_flat y b r, ← anRow_flat y b r]
    rfl
  | 3 =>
    rw [corner3, locLg_row, locLg_row, ← anRow_flat y b r, ← anRow_flat y b r]
    rfl

theorem exists_ix3 (j : S16x20000x4.Idx) : ∃ (b : Fin 16) (r : Fin 20000) (k : Fin 4), j = ix3 b r k := by
  refine ⟨j 0, j 1, j 2, ?_⟩
  funext a
  match a with
  | ⟨0, _⟩ => rfl
  | ⟨1, _⟩ => rfl
  | ⟨2, _⟩ => rfl

theorem flat3 {α : Type} (f : S1280000.Idx → α) (b : Fin 16) (r : Fin 20000) (k : Fin 4) :
    shapeCast S16x20000x4 f Cert.KernelIdeal.Gen.shapeCasts_S1280000_S16x20000x4 (ix3 b r k) = f (pos 1280000 (4 * (20000 * b.val + r.val) + k.val)) := by
  refine shapeCast_apply f _ _ _ ?_
  rw [Shape.rowMajor_val_one, Shape.rowMajor_val_three, pos_val (by omega)]
  show _ = (b.val * 20000 + r.val) * 4 + k.val
  omega

theorem boxA_apply (X : FVec Ideal S8000000 .f32) (Y : FVec Ideal S80000 .f32) {n k : Nat} (h : 4 * n + k < 1280000) (hk : k < 4) :
    boxA (F := Ideal) X Y (pos 1280000 (4 * n + k)) = corner (F := Ideal) (lgRow (F := Ideal) X n) (anRow (F := Ideal) Y n) k := by
  refine Eq.trans (congrArg (fun i => corner (F := Ideal) (lgRow (F := Ideal) X (i / 4)) (anRow (F := Ideal) Y (i / 4)) (i % 4)) (pos_val h 0)) ?_
  show corner (F := Ideal) (lgRow (F := Ideal) X ((4 * n + k) / 4)) (anRow (F := Ideal) Y ((4 * n + k) / 4)) ((4 * n + k) % 4) = _
  rw [show (4 * n + k) / 4 = n by omega, show (4 * n + k) % 4 = k by omega]

theorem boxes_eq : shapeCast S16x20000x4 (boxA (F := Ideal) (flatX x) (flatY y)) Cert.KernelIdeal.Gen.shapeCasts_S1280000_S16x20000x4 = Ref.boxes x y := by
  funext j
  obtain ⟨b, r, k, rfl⟩ := exists_ix3 j
  unfold Ref.boxes
  rw [flat3, boxA_apply _ _ (by omega) k.isLt, maskBoxes_apply, mask_row, bit_flt]
  exact (corner_row x y b r k).symm

end Cert.Proof.Value

end
-- ==== Proof.Tally.lean ====
/-
  The number of unmasked rows of an image: the reference adds one word per row, the kernel sixteen running counts in each of
  two halves, and the thirty-two counts are added at the end. Addition of words being commutative, both are the sum over the
  image's rows.
-/
module

public import proofs.«01_k».proof.Proof.Mask
public import Mathlib.Data.BitVec

@[expose] public section

noncomputable section

namespace Cert.Proof.Value

open Idealize.ShloMosaic
open Cert.Proof.Row
open Cert.KernelIdeal (S16x20000x25 S8000000 S16x20000 S16x32 S32x16 S_ S16)
open Finset (range)

theorem fold_addi {ι : Type} (s : Finset ι) (g : ι → BitVec 32) : s.fold IntOp.addi 0#32 g = ∑ i ∈ s, g i := by
  classical
  induction s using Finset.cons_induction with
  | empty => rfl
  | cons a s ha ih =>
    rw [Finset.fold_cons, Finset.sum_cons, ih]
    rfl

/-- Sixteen interleaved sums make one. -/
theorem sum_lanes {M : Type} [AddCommMonoid M] (g : Nat → M) (p : Nat) : ∑ n ∈ range (16 * p), g n = ∑ l ∈ range 16, ∑ t ∈ range p, g (16 * t + l) := by
  rw [Finset.sum_comm]
  induction p with
  | zero => rw [Nat.mul_zero, Finset.sum_range_zero, Finset.sum_range_zero]
  | succ p ih => rw [Nat.mul_succ, Finset.sum_range_add, ih, Finset.sum_range_succ _ p]

theorem count_sum (X : FVec Ideal S8000000 .f32) (b l t : Nat) :
    count (F := Ideal) X b l 0#32 t = ∑ u ∈ range t, mword (F := Ideal) (lgRow (F := Ideal) X (b + 16 * u + l)) := by
  induction t with
  | zero => rfl
  | succ t ih =>
    rw [Finset.sum_range_succ, ← ih]
    rfl

/-- The two halves of an image's rows, each in sixteen counts. -/
theorem sum_halves {M : Type} [AddCommMonoid M] (g : Nat → M) :
    ∑ k ∈ range 32, ∑ t ∈ range 625, g (10000 * (k / 16) + 16 * t + k % 16) = ∑ n ∈ range 20000, g n := by
  rw [show (32 : Nat) = 16 + 16 from rfl, show (20000 : Nat) = 16 * 625 + 16 * 625 from rfl, Finset.sum_range_add, Finset.sum_range_add, sum_lanes,
    sum_lanes (fun n => g (16 * 625 + n))]
  congr 1
  all_goals
    refine Finset.sum_congr rfl fun l hl => Finset.sum_congr rfl fun t _ => congrArg g ?_
    have := Finset.mem_range.1 hl
    omega

variable (x : FVec Ideal S16x20000x25 .f32)

theorem tally_row (k : IVec Cert.ReferenceIdeal.S16x20000 1) (b : Fin 16) : Ref.tally k (ix1 b) = ∑ r : Fin 20000, (k (ix2 b r)).setWidth 32 := by
  unfold Ref.tally
  rw [Host.reduce_eq_fold, Shape.ReducesTo.fold_fiber_r2_a1]
  exact fold_addi _ _

theorem flatC (f : S32x16.Idx → BitVec 32) (b : Fin 16) (k : Fin 32) :
    shapeCast S16x32 f Cert.KernelIdeal.Gen.shapeCasts_S32x16_S16x32 (ix2 b k) = f (ix2 ⟨2 * b.val + k.val / 16, by omega⟩ ⟨k.val % 16, by omega⟩) := by
  refine shapeCast_apply f _ _ _ ?_
  rw [Shape.rowMajor_val_two, Shape.rowMajor_val_two]
  show (2 * b.val + k.val / 16) * 16 + k.val % 16 = b.val * 32 + k.val
  omega

theorem number_row (b : Fin 16) :
    Host.reduce IntOp.addi (shapeCast S16x32 (countA (F := Ideal) (flatX x)) Cert.KernelIdeal.Gen.shapeCasts_S32x16_S16x32) (constantI S_ 32 0#32)
      Cert.KernelIdeal.Gen.reducesTo_S16x32_S16_d1 Cert.KernelIdeal.Gen.h_S_ (ix1 b)
      = ∑ n ∈ range 20000, mword (F := Ideal) (lgRow (F := Ideal) (flatX x) (20000 * b.val + n)) := by
  rw [Host.reduce_eq_fold, Shape.ReducesTo.fold_fiber_r2_a1]
  refine (fold_addi _ _).trans ?_
  rw [← sum_halves fun n => mword (F := Ideal) (lgRow (F := Ideal) (flatX x) (20000 * b.val + n)),
    ← Fin.sum_univ_eq_sum_range fun k => ∑ t ∈ range 625, mword (F := Ideal) (lgRow (F := Ideal) (flatX x) (20000 * b.val + (10000 * (k / 16) + 16 * t + k % 16)))]
  refine Finset.sum_congr rfl fun k _ => (flatC _ b k).trans ?_
  refine (count_sum (flatX x) (10000 * (2 * b.val + k.val / 16)) (k.val % 16) 625).trans (Finset.sum_congr rfl fun t _ => ?_)
  rw [show 10000 * (2 * b.val + k.val / 16) + 16 * t + k.val % 16 = 20000 * b.val + (10000 * (k.val / 16) + 16 * t + k.val % 16) by omega]

theorem number_eq :
    Host.reduce IntOp.addi (shapeCast S16x32 (countA (F := Ideal) (flatX x)) Cert.KernelIdeal.Gen.shapeCasts_S32x16_S16x32) (constantI S_ 32 0#32)
      Cert.KernelIdeal.Gen.reducesTo_S16x32_S16_d1 Cert.KernelIdeal.Gen.h_S_ = Ref.number x := by
  funext j
  obtain ⟨b, rfl⟩ : ∃ b : Fin 16, j = ix1 b := ⟨j 0, eq_ix1 j⟩
  unfold Ref.number
  rw [number_row, tally_row, ← Fin.sum_univ_eq_sum_range fun n => mword (F := Ideal) (lgRow (F := Ideal) (flatX x) (20000 * b.val + n))]
  refine Finset.sum_congr rfl fun r _ => ?_
  rw [mask_row]
  rfl

end Cert.Proof.Value

end
-- ==== Proof.Equal.lean ====
/-
  The equation of the two programs: from equal arguments the kernel's four results are the reference's.
-/
module

public import proofs.«01_k».proof.Proof.Boxes
public import proofs.«01_k».proof.Proof.Tally

@[expose] public section

noncomputable section

namespace Cert.Proof.Value

open Idealize.ShloMosaic Idealize.SL.Sem
open Cert.KernelIdeal

variable (m : (ℓ : Loc nD τ sig) → Buf (Elt Ideal) ℓ) (d : Dev nD)

/-- A device's two arguments. -/
abbrev argX : FVec Ideal S16x20000x25 .f32 := m ((KernelIdeal.tc d).loc main_arg0)
abbrev argY : FVec Ideal S20000x4 .f32 := m ((KernelIdeal.tc d).loc main_arg1)

theorem R3_eq : KernelIdeal.R3 (F := Ideal) m d = Ref.boxes (argX m d) (argY m d) := boxes_eq (argX m d) (argY m d)
theorem R4_eq : KernelIdeal.R4 (F := Ideal) m d = Ref.scores (argX m d) := scores_eq (argX m d)
theorem R5_eq : KernelIdeal.R5 (F := Ideal) m d = Ref.classes (argX m d) := classes_eq (argX m d)
theorem R7_eq : KernelIdeal.R7 (F := Ideal) m d = Ref.number (argX m d) := number_eq (argX m d)

end Cert.Proof.Value

end
-- ==== Proof.lean ====
/-
  The three frames: each program's run with the values of its results left out; the idealization, which replaces no operation;
  and the equation of the kernel with the reference, from the two runs and the equality of their results (Proof/Equal.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KLaunch
public import proofs.«01_k».proof.Proof.ILaunch
public import proofs.«01_k».proof.Proof.Ref
public import proofs.«01_k».proof.Proof.Equal

@[expose] public section

noncomputable section

namespace Cert.Proof

open Idealize.ShloMosaic Idealize.SL.Sem

theorem frame_k : Cert.quiescent_Kernel := fun m ρ _ =>
  (θ_run _ _ _).mono (fun _ h => ⟨fun c => ⟨(h.1 c).1, (h.1 c).2.1⟩, h.2⟩) (Kernel.run_main (F := Bits) m ρ)

theorem frame_i : Cert.quiescent_KernelIdeal := fun m ρ _ =>
  (θ_run _ _ _).mono (fun _ h => ⟨fun c => ⟨(h.1 c).1, (h.1 c).2.1⟩, h.2⟩) (KernelIdeal.run_main (F := Ideal) m ρ)

theorem frame_r : Cert.quiescent_ReferenceIdeal := fun m ρ _ =>
  (θ_run _ _ _).mono (fun _ h => ⟨fun c => ⟨(h.1 c).2.2.2.2.1, (h.1 c).2.2.2.2.2⟩, h.2⟩) (Ref.run_main (F := Ideal) m ρ)

theorem equal : Cert.algebraic_KernelIdeal_ReferenceIdeal := by
  intro m ρ m' ρ' _ hagree
  refine ⟨fun c => Ref.boxes (Value.argX m c) (Value.argY m c), fun c => Ref.scores (Value.argX m c), fun c => Ref.classes (Value.argX m c),
    fun c => Ref.number (Value.argX m c),
    (θ_run _ _ _).mono (fun r h c => ?_) (KernelIdeal.run_main (F := Ideal) m ρ),
    (θ_run _ _ _).mono (fun r h c => ?_) (Ref.run_main (F := Ideal) m' ρ')⟩
  · obtain ⟨h0, h1, h3, h4, h5, h7⟩ := h.1 c
    exact ⟨h3.trans (Value.R3_eq m c), h4.trans (Value.R4_eq m c), h5.trans (Value.R5_eq m c), h7.trans (Value.R7_eq m c), h0, h1⟩
  · obtain ⟨h3, h4, h5, h7, h0, h1⟩ := h.1 c
    obtain ⟨e0, e1⟩ := hagree c
    exact ⟨h3.trans (congrArg₂ Ref.boxes e0 e1), h4.trans (congrArg Ref.scores e0), h5.trans (congrArg Ref.classes e0),
      h7.trans (congrArg Ref.number e0), h0, h1⟩

theorem claim : Cert.Claim := ⟨Cert.Kernel.Gen.facts, Cert.KernelIdeal.Gen.facts, Cert.ReferenceIdeal.Gen.facts,
  frame_k, frame_i, frame_r, trivial, equal⟩

end Cert.Proof

end
